-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x16x512 : Shape := ⟨3, ![16, 16, 512]⟩
abbrev S16x512 : Shape := ⟨2, ![16, 512]⟩
abbrev S16 : Shape := ⟨1, ![16]⟩
abbrev S_ : Shape := ⟨0, ![]⟩
abbrev S1 : Shape := ⟨1, ![1]⟩
abbrev S1x16x512 : Shape := ⟨3, ![1, 16, 512]⟩
abbrev S128x512 : Shape := ⟨2, ![128, 512]⟩
abbrev S128x256 : Shape := ⟨2, ![128, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S256x512, .bf16⟩
  | .local _ .vmem, ⟨9, _⟩ => ⟨S16x16x512, .bf16⟩
  | .local _ .vmem, ⟨10, _⟩ => ⟨S256x512, .bf16⟩
  | .local _ .vmem, ⟨11, _⟩ => ⟨S16x512, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => true
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 1 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v3 : BitVec 32 := Scalar.muli c0_i32 c1_i32_1
  let v4 : BitVec 32 := Scalar.addi c0_i32_2 v3
  v4.toNat
def k0_dev2 : Nat :=
  let c0_i32_6 : BitVec 32 := 0#32
  let c1_i32_4 : BitVec 32 := 1#32
  let c1_i32_5 : BitVec 32 := 1#32
  let v5 : BitVec 32 := Scalar.muli c1_i32_4 c1_i32_5
  let v6 : BitVec 32 := Scalar.addi c0_i32_6 v5
  v6.toNat
def k0_dev3 : Nat :=
  let c0_i32_9 : BitVec 32 := 0#32
  let c2_i32 : BitVec 32 := 2#32
  let c1_i32_8 : BitVec 32 := 1#32
  let v7 : BitVec 32 := Scalar.muli c2_i32 c1_i32_8
  let v8 : BitVec 32 := Scalar.addi c0_i32_9 v7
  v8.toNat
def k0_dev4 : Nat :=
  let c0_i32_12 : BitVec 32 := 0#32
  let c3_i32 : BitVec 32 := 3#32
  let c1_i32_11 : BitVec 32 := 1#32
  let v9 : BitVec 32 := Scalar.muli c3_i32 c1_i32_11
  let v10 : BitVec 32 := Scalar.addi c0_i32_12 v9
  v10.toNat
def k0_dev5 : Nat :=
  let c0_i32_15 : BitVec 32 := 0#32
  let c4_i32 : BitVec 32 := 4#32
  let c1_i32_14 : BitVec 32 := 1#32
  let v11 : BitVec 32 := Scalar.muli c4_i32 c1_i32_14
  let v12 : BitVec 32 := Scalar.addi c0_i32_15 v11
  v12.toNat
def k0_dev6 : Nat :=
  let c0_i32_18 : BitVec 32 := 0#32
  let c5_i32 : BitVec 32 := 5#32
  let c1_i32_17 : BitVec 32 := 1#32
  let v13 : BitVec 32 := Scalar.muli c5_i32 c1_i32_17
  let v14 : BitVec 32 := Scalar.addi c0_i32_18 v13
  v14.toNat
def k0_dev7 : Nat :=
  let c0_i32_21 : BitVec 32 := 0#32
  let c6_i32 : BitVec 32 := 6#32
  let c1_i32_20 : BitVec 32 := 1#32
  let v15 : BitVec 32 := Scalar.muli c6_i32 c1_i32_20
  let v16 : BitVec 32 := Scalar.addi c0_i32_21 v15
  v16.toNat
def k0_dev8 : Nat :=
  let c0_i32_24 : BitVec 32 := 0#32
  let c7_i32 : BitVec 32 := 7#32
  let c1_i32_23 : BitVec 32 := 1#32
  let v17 : BitVec 32 := Scalar.muli c7_i32 c1_i32_23
  let v18 : BitVec 32 := Scalar.addi c0_i32_24 v17
  v18.toNat
def k0_dev9 : Nat :=
  let c0_i32_27 : BitVec 32 := 0#32
  let c8_i32 : BitVec 32 := 8#32
  let c1_i32_26 : BitVec 32 := 1#32
  let v19 : BitVec 32 := Scalar.muli c8_i32 c1_i32_26
  let v20 : BitVec 32 := Scalar.addi c0_i32_27 v19
  v20.toNat
def k0_dev10 : Nat :=
  let c0_i32_30 : BitVec 32 := 0#32
  let c9_i32 : BitVec 32 := 9#32
  let c1_i32_29 : BitVec 32 := 1#32
  let v21 : BitVec 32 := Scalar.muli c9_i32 c1_i32_29
  let v22 : BitVec 32 := Scalar.addi c0_i32_30 v21
  v22.toNat
def k0_dev11 : Nat :=
  let c0_i32_33 : BitVec 32 := 0#32
  let c10_i32 : BitVec 32 := 10#32
  let c1_i32_32 : BitVec 32 := 1#32
  let v23 : BitVec 32 := Scalar.muli c10_i32 c1_i32_32
  let v24 : BitVec 32 := Scalar.addi c0_i32_33 v23
  v24.toNat
def k0_dev12 : Nat :=
  let c0_i32_36 : BitVec 32 := 0#32
  let c11_i32 : BitVec 32 := 11#32
  let c1_i32_35 : BitVec 32 := 1#32
  let v25 : BitVec 32 := Scalar.muli c11_i32 c1_i32_35
  let v26 : BitVec 32 := Scalar.addi c0_i32_36 v25
  v26.toNat
def k0_dev13 : Nat :=
  let c0_i32_39 : BitVec 32 := 0#32
  let c12_i32 : BitVec 32 := 12#32
  let c1_i32_38 : BitVec 32 := 1#32
  let v27 : BitVec 32 := Scalar.muli c12_i32 c1_i32_38
  let v28 : BitVec 32 := Scalar.addi c0_i32_39 v27
  v28.toNat
def k0_dev14 : Nat :=
  let c0_i32_42 : BitVec 32 := 0#32
  let c13_i32 : BitVec 32 := 13#32
  let c1_i32_41 : BitVec 32 := 1#32
  let v29 : BitVec 32 := Scalar.muli c13_i32 c1_i32_41
  let v30 : BitVec 32 := Scalar.addi c0_i32_42 v29
  v30.toNat
def k0_dev15 : Nat :=
  let c0_i32_45 : BitVec 32 := 0#32
  let c14_i32 : BitVec 32 := 14#32
  let c1_i32_44 : BitVec 32 := 1#32
  let v31 : BitVec 32 := Scalar.muli c14_i32 c1_i32_44
  let v32 : BitVec 32 := Scalar.addi c0_i32_45 v31
  v32.toNat
def k0_dev16 : Nat :=
  let c0_i32_48 : BitVec 32 := 0#32
  let c15_i32 : BitVec 32 := 15#32
  let c1_i32_47 : BitVec 32 := 1#32
  let v33 : BitVec 32 := Scalar.muli c15_i32 c1_i32_47
  let v34 : BitVec 32 := Scalar.addi c0_i32_48 v33
  v34.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_59 : BitVec 32 := 0#32
  let c0_i32_60 : BitVec 32 := 0#32
  ![v2.toNat, 0, 0]
def k0_dev17 : Nat :=
  let c0_i32_58 : BitVec 32 := 0#32
  let c0_i32_56 : BitVec 32 := 0#32
  let c1_i32_57 : BitVec 32 := 1#32
  let v44 : BitVec 32 := Scalar.muli c0_i32_56 c1_i32_57
  let v45 : BitVec 32 := Scalar.addi c0_i32_58 v44
  v45.toNat
def k0_dev18 : Nat :=
  let c0_i32_66 : BitVec 32 := 0#32
  let c1_i32_64 : BitVec 32 := 1#32
  let c1_i32_65 : BitVec 32 := 1#32
  let v53 : BitVec 32 := Scalar.muli c1_i32_64 c1_i32_65
  let v54 : BitVec 32 := Scalar.addi c0_i32_66 v53
  v54.toNat
def k0_dev19 : Nat :=
  let c0_i32_74 : BitVec 32 := 0#32
  let c2_i32_72 : BitVec 32 := 2#32
  let c1_i32_73 : BitVec 32 := 1#32
  let v62 : BitVec 32 := Scalar.muli c2_i32_72 c1_i32_73
  let v63 : BitVec 32 := Scalar.addi c0_i32_74 v62
  v63.toNat
def k0_dev20 : Nat :=
  let c0_i32_81 : BitVec 32 := 0#32
  let c3_i32_79 : BitVec 32 := 3#32
  let c1_i32_80 : BitVec 32 := 1#32
  let v71 : BitVec 32 := Scalar.muli c3_i32_79 c1_i32_80
  let v72 : BitVec 32 := Scalar.addi c0_i32_81 v71
  v72.toNat
def k0_dev21 : Nat :=
  let c0_i32_88 : BitVec 32 := 0#32
  let c4_i32_86 : BitVec 32 := 4#32
  let c1_i32_87 : BitVec 32 := 1#32
  let v80 : BitVec 32 := Scalar.muli c4_i32_86 c1_i32_87
  let v81 : BitVec 32 := Scalar.addi c0_i32_88 v80
  v81.toNat
def k0_dev22 : Nat :=
  let c0_i32_95 : BitVec 32 := 0#32
  let c5_i32_93 : BitVec 32 := 5#32
  let c1_i32_94 : BitVec 32 := 1#32
  let v89 : BitVec 32 := Scalar.muli c5_i32_93 c1_i32_94
  let v90 : BitVec 32 := Scalar.addi c0_i32_95 v89
  v90.toNat
def k0_dev23 : Nat :=
  let c0_i32_102 : BitVec 32 := 0#32
  let c6_i32_100 : BitVec 32 := 6#32
  let c1_i32_101 : BitVec 32 := 1#32
  let v98 : BitVec 32 := Scalar.muli c6_i32_100 c1_i32_101
  let v99 : BitVec 32 := Scalar.addi c0_i32_102 v98
  v99.toNat
def k0_dev24 : Nat :=
  let c0_i32_109 : BitVec 32 := 0#32
  let c7_i32_107 : BitVec 32 := 7#32
  let c1_i32_108 : BitVec 32 := 1#32
  let v107 : BitVec 32 := Scalar.muli c7_i32_107 c1_i32_108
  let v108 : BitVec 32 := Scalar.addi c0_i32_109 v107
  v108.toNat
def k0_dev25 : Nat :=
  let c0_i32_116 : BitVec 32 := 0#32
  let c8_i32_114 : BitVec 32 := 8#32
  let c1_i32_115 : BitVec 32 := 1#32
  let v116 : BitVec 32 := Scalar.muli c8_i32_114 c1_i32_115
  let v117 : BitVec 32 := Scalar.addi c0_i32_116 v116
  v117.toNat
def k0_dev26 : Nat :=
  let c0_i32_123 : BitVec 32 := 0#32
  let c9_i32_121 : BitVec 32 := 9#32
  let c1_i32_122 : BitVec 32 := 1#32
  let v125 : BitVec 32 := Scalar.muli c9_i32_121 c1_i32_122
  let v126 : BitVec 32 := Scalar.addi c0_i32_123 v125
  v126.toNat
def k0_dev27 : Nat :=
  let c0_i32_130 : BitVec 32 := 0#32
  let c10_i32_128 : BitVec 32 := 10#32
  let c1_i32_129 : BitVec 32 := 1#32
  let v134 : BitVec 32 := Scalar.muli c10_i32_128 c1_i32_129
  let v135 : BitVec 32 := Scalar.addi c0_i32_130 v134
  v135.toNat
def k0_dev28 : Nat :=
  let c0_i32_137 : BitVec 32 := 0#32
  let c11_i32_135 : BitVec 32 := 11#32
  let c1_i32_136 : BitVec 32 := 1#32
  let v143 : BitVec 32 := Scalar.muli c11_i32_135 c1_i32_136
  let v144 : BitVec 32 := Scalar.addi c0_i32_137 v143
  v144.toNat
def k0_dev29 : Nat :=
  let c0_i32_144 : BitVec 32 := 0#32
  let c12_i32_142 : BitVec 32 := 12#32
  let c1_i32_143 : BitVec 32 := 1#32
  let v152 : BitVec 32 := Scalar.muli c12_i32_142 c1_i32_143
  let v153 : BitVec 32 := Scalar.addi c0_i32_144 v152
  v153.toNat
def k0_dev30 : Nat :=
  let c0_i32_151 : BitVec 32 := 0#32
  let c13_i32_149 : BitVec 32 := 13#32
  let c1_i32_150 : BitVec 32 := 1#32
  let v161 : BitVec 32 := Scalar.muli c13_i32_149 c1_i32_150
  let v162 : BitVec 32 := Scalar.addi c0_i32_151 v161
  v162.toNat
def k0_dev31 : Nat :=
  let c0_i32_158 : BitVec 32 := 0#32
  let c14_i32_156 : BitVec 32 := 14#32
  let c1_i32_157 : BitVec 32 := 1#32
  let v170 : BitVec 32 := Scalar.muli c14_i32_156 c1_i32_157
  let v171 : BitVec 32 := Scalar.addi c0_i32_158 v170
  v171.toNat
def k0_dev32 : Nat :=
  let c0_i32_165 : BitVec 32 := 0#32
  let c15_i32_163 : BitVec 32 := 15#32
  let c1_i32_164 : BitVec 32 := 1#32
  let v179 : BitVec 32 := Scalar.muli c15_i32_163 c1_i32_164
  let v180 : BitVec 32 := Scalar.addi c0_i32_165 v179
  v180.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_448 : BitVec 32 := 16#32
  let v389 : BitVec 32 := Scalar.muli v2 c16_i32_448
  let c0_i32_453 : BitVec 32 := 0#32
  ![v389.toNat, 0]
def k0_dev33 : Nat :=
  let c0_i32_452 : BitVec 32 := 0#32
  let c0_i32_450 : BitVec 32 := 0#32
  let c1_i32_451 : BitVec 32 := 1#32
  let v390 : BitVec 32 := Scalar.muli c0_i32_450 c1_i32_451
  let v391 : BitVec 32 := Scalar.addi c0_i32_452 v390
  v391.toNat
def k0_dev34 : Nat :=
  let c0_i32_458 : BitVec 32 := 0#32
  let c1_i32_456 : BitVec 32 := 1#32
  let c1_i32_457 : BitVec 32 := 1#32
  let v398 : BitVec 32 := Scalar.muli c1_i32_456 c1_i32_457
  let v399 : BitVec 32 := Scalar.addi c0_i32_458 v398
  v399.toNat
def k0_dev35 : Nat :=
  let c0_i32_464 : BitVec 32 := 0#32
  let c2_i32_462 : BitVec 32 := 2#32
  let c1_i32_463 : BitVec 32 := 1#32
  let v406 : BitVec 32 := Scalar.muli c2_i32_462 c1_i32_463
  let v407 : BitVec 32 := Scalar.addi c0_i32_464 v406
  v407.toNat
def k0_dev36 : Nat :=
  let c0_i32_470 : BitVec 32 := 0#32
  let c3_i32_468 : BitVec 32 := 3#32
  let c1_i32_469 : BitVec 32 := 1#32
  let v414 : BitVec 32 := Scalar.muli c3_i32_468 c1_i32_469
  let v415 : BitVec 32 := Scalar.addi c0_i32_470 v414
  v415.toNat
def k0_dev37 : Nat :=
  let c0_i32_476 : BitVec 32 := 0#32
  let c4_i32_474 : BitVec 32 := 4#32
  let c1_i32_475 : BitVec 32 := 1#32
  let v422 : BitVec 32 := Scalar.muli c4_i32_474 c1_i32_475
  let v423 : BitVec 32 := Scalar.addi c0_i32_476 v422
  v423.toNat
def k0_dev38 : Nat :=
  let c0_i32_482 : BitVec 32 := 0#32
  let c5_i32_480 : BitVec 32 := 5#32
  let c1_i32_481 : BitVec 32 := 1#32
  let v430 : BitVec 32 := Scalar.muli c5_i32_480 c1_i32_481
  let v431 : BitVec 32 := Scalar.addi c0_i32_482 v430
  v431.toNat
def k0_dev39 : Nat :=
  let c0_i32_488 : BitVec 32 := 0#32
  let c6_i32_486 : BitVec 32 := 6#32
  let c1_i32_487 : BitVec 32 := 1#32
  let v438 : BitVec 32 := Scalar.muli c6_i32_486 c1_i32_487
  let v439 : BitVec 32 := Scalar.addi c0_i32_488 v438
  v439.toNat
def k0_dev40 : Nat :=
  let c0_i32_494 : BitVec 32 := 0#32
  let c7_i32_492 : BitVec 32 := 7#32
  let c1_i32_493 : BitVec 32 := 1#32
  let v446 : BitVec 32 := Scalar.muli c7_i32_492 c1_i32_493
  let v447 : BitVec 32 := Scalar.addi c0_i32_494 v446
  v447.toNat
def k0_dev41 : Nat :=
  let c0_i32_500 : BitVec 32 := 0#32
  let c8_i32_498 : BitVec 32 := 8#32
  let c1_i32_499 : BitVec 32 := 1#32
  let v454 : BitVec 32 := Scalar.muli c8_i32_498 c1_i32_499
  let v455 : BitVec 32 := Scalar.addi c0_i32_500 v454
  v455.toNat
def k0_dev42 : Nat :=
  let c0_i32_506 : BitVec 32 := 0#32
  let c9_i32_504 : BitVec 32 := 9#32
  let c1_i32_505 : BitVec 32 := 1#32
  let v462 : BitVec 32 := Scalar.muli c9_i32_504 c1_i32_505
  let v463 : BitVec 32 := Scalar.addi c0_i32_506 v462
  v463.toNat
def k0_dev43 : Nat :=
  let c0_i32_512 : BitVec 32 := 0#32
  let c10_i32_510 : BitVec 32 := 10#32
  let c1_i32_511 : BitVec 32 := 1#32
  let v470 : BitVec 32 := Scalar.muli c10_i32_510 c1_i32_511
  let v471 : BitVec 32 := Scalar.addi c0_i32_512 v470
  v471.toNat
def k0_dev44 : Nat :=
  let c0_i32_518 : BitVec 32 := 0#32
  let c11_i32_516 : BitVec 32 := 11#32
  let c1_i32_517 : BitVec 32 := 1#32
  let v478 : BitVec 32 := Scalar.muli c11_i32_516 c1_i32_517
  let v479 : BitVec 32 := Scalar.addi c0_i32_518 v478
  v479.toNat
def k0_dev45 : Nat :=
  let c0_i32_524 : BitVec 32 := 0#32
  let c12_i32_522 : BitVec 32 := 12#32
  let c1_i32_523 : BitVec 32 := 1#32
  let v486 : BitVec 32 := Scalar.muli c12_i32_522 c1_i32_523
  let v487 : BitVec 32 := Scalar.addi c0_i32_524 v486
  v487.toNat
def k0_dev46 : Nat :=
  let c0_i32_530 : BitVec 32 := 0#32
  let c13_i32_528 : BitVec 32 := 13#32
  let c1_i32_529 : BitVec 32 := 1#32
  let v494 : BitVec 32 := Scalar.muli c13_i32_528 c1_i32_529
  let v495 : BitVec 32 := Scalar.addi c0_i32_530 v494
  v495.toNat
def k0_dev47 : Nat :=
  let c0_i32_536 : BitVec 32 := 0#32
  let c14_i32_534 : BitVec 32 := 14#32
  let c1_i32_535 : BitVec 32 := 1#32
  let v502 : BitVec 32 := Scalar.muli c14_i32_534 c1_i32_535
  let v503 : BitVec 32 := Scalar.addi c0_i32_536 v502
  v503.toNat
def k0_dev48 : Nat :=
  let c0_i32_542 : BitVec 32 := 0#32
  let c15_i32_540 : BitVec 32 := 15#32
  let c1_i32_541 : BitVec 32 := 1#32
  let v510 : BitVec 32 := Scalar.muli c15_i32_540 c1_i32_541
  let v511 : BitVec 32 := Scalar.addi c0_i32_542 v510
  v511.toNat
def k0_dev49 : Nat :=
  let c0_i32_613 : BitVec 32 := 0#32
  let c0_i32_611 : BitVec 32 := 0#32
  let c1_i32_612 : BitVec 32 := 1#32
  let v569 : BitVec 32 := Scalar.muli c0_i32_611 c1_i32_612
  let v570 : BitVec 32 := Scalar.addi c0_i32_613 v569
  v570.toNat
def k0_dev50 : Nat :=
  let c0_i32_621 : BitVec 32 := 0#32
  let c1_i32_619 : BitVec 32 := 1#32
  let c1_i32_620 : BitVec 32 := 1#32
  let v578 : BitVec 32 := Scalar.muli c1_i32_619 c1_i32_620
  let v579 : BitVec 32 := Scalar.addi c0_i32_621 v578
  v579.toNat
def k0_dev51 : Nat :=
  let c0_i32_629 : BitVec 32 := 0#32
  let c2_i32_627 : BitVec 32 := 2#32
  let c1_i32_628 : BitVec 32 := 1#32
  let v587 : BitVec 32 := Scalar.muli c2_i32_627 c1_i32_628
  let v588 : BitVec 32 := Scalar.addi c0_i32_629 v587
  v588.toNat
def k0_dev52 : Nat :=
  let c0_i32_637 : BitVec 32 := 0#32
  let c3_i32_635 : BitVec 32 := 3#32
  let c1_i32_636 : BitVec 32 := 1#32
  let v596 : BitVec 32 := Scalar.muli c3_i32_635 c1_i32_636
  let v597 : BitVec 32 := Scalar.addi c0_i32_637 v596
  v597.toNat
def k0_dev53 : Nat :=
  let c0_i32_645 : BitVec 32 := 0#32
  let c4_i32_643 : BitVec 32 := 4#32
  let c1_i32_644 : BitVec 32 := 1#32
  let v605 : BitVec 32 := Scalar.muli c4_i32_643 c1_i32_644
  let v606 : BitVec 32 := Scalar.addi c0_i32_645 v605
  v606.toNat
def k0_dev54 : Nat :=
  let c0_i32_653 : BitVec 32 := 0#32
  let c5_i32_651 : BitVec 32 := 5#32
  let c1_i32_652 : BitVec 32 := 1#32
  let v614 : BitVec 32 := Scalar.muli c5_i32_651 c1_i32_652
  let v615 : BitVec 32 := Scalar.addi c0_i32_653 v614
  v615.toNat
def k0_dev55 : Nat :=
  let c0_i32_661 : BitVec 32 := 0#32
  let c6_i32_659 : BitVec 32 := 6#32
  let c1_i32_660 : BitVec 32 := 1#32
  let v623 : BitVec 32 := Scalar.muli c6_i32_659 c1_i32_660
  let v624 : BitVec 32 := Scalar.addi c0_i32_661 v623
  v624.toNat
def k0_dev56 : Nat :=
  let c0_i32_669 : BitVec 32 := 0#32
  let c7_i32_667 : BitVec 32 := 7#32
  let c1_i32_668 : BitVec 32 := 1#32
  let v632 : BitVec 32 := Scalar.muli c7_i32_667 c1_i32_668
  let v633 : BitVec 32 := Scalar.addi c0_i32_669 v632
  v633.toNat
def k0_dev57 : Nat :=
  let c0_i32_738 : BitVec 32 := 0#32
  let c8_i32_736 : BitVec 32 := 8#32
  let c1_i32_737 : BitVec 32 := 1#32
  let v689 : BitVec 32 := Scalar.muli c8_i32_736 c1_i32_737
  let v690 : BitVec 32 := Scalar.addi c0_i32_738 v689
  v690.toNat
def k0_dev58 : Nat :=
  let c0_i32_746 : BitVec 32 := 0#32
  let c9_i32_744 : BitVec 32 := 9#32
  let c1_i32_745 : BitVec 32 := 1#32
  let v698 : BitVec 32 := Scalar.muli c9_i32_744 c1_i32_745
  let v699 : BitVec 32 := Scalar.addi c0_i32_746 v698
  v699.toNat
def k0_dev59 : Nat :=
  let c0_i32_754 : BitVec 32 := 0#32
  let c10_i32_752 : BitVec 32 := 10#32
  let c1_i32_753 : BitVec 32 := 1#32
  let v707 : BitVec 32 := Scalar.muli c10_i32_752 c1_i32_753
  let v708 : BitVec 32 := Scalar.addi c0_i32_754 v707
  v708.toNat
def k0_dev60 : Nat :=
  let c0_i32_762 : BitVec 32 := 0#32
  let c11_i32_760 : BitVec 32 := 11#32
  let c1_i32_761 : BitVec 32 := 1#32
  let v716 : BitVec 32 := Scalar.muli c11_i32_760 c1_i32_761
  let v717 : BitVec 32 := Scalar.addi c0_i32_762 v716
  v717.toNat
def k0_dev61 : Nat :=
  let c0_i32_770 : BitVec 32 := 0#32
  let c12_i32_768 : BitVec 32 := 12#32
  let c1_i32_769 : BitVec 32 := 1#32
  let v725 : BitVec 32 := Scalar.muli c12_i32_768 c1_i32_769
  let v726 : BitVec 32 := Scalar.addi c0_i32_770 v725
  v726.toNat
def k0_dev62 : Nat :=
  let c0_i32_778 : BitVec 32 := 0#32
  let c13_i32_776 : BitVec 32 := 13#32
  let c1_i32_777 : BitVec 32 := 1#32
  let v734 : BitVec 32 := Scalar.muli c13_i32_776 c1_i32_777
  let v735 : BitVec 32 := Scalar.addi c0_i32_778 v734
  v735.toNat
def k0_dev63 : Nat :=
  let c0_i32_786 : BitVec 32 := 0#32
  let c14_i32_784 : BitVec 32 := 14#32
  let c1_i32_785 : BitVec 32 := 1#32
  let v743 : BitVec 32 := Scalar.muli c14_i32_784 c1_i32_785
  let v744 : BitVec 32 := Scalar.addi c0_i32_786 v743
  v744.toNat
def k0_dev64 : Nat :=
  let c0_i32_794 : BitVec 32 := 0#32
  let c15_i32_792 : BitVec 32 := 15#32
  let c1_i32_793 : BitVec 32 := 1#32
  let v752 : BitVec 32 := Scalar.muli c15_i32_792 c1_i32_793
  let v753 : BitVec 32 := Scalar.addi c0_i32_794 v752
  v753.toNat
def k0_dev65 : Nat :=
  let c0_i32_1146 : BitVec 32 := 0#32
  let c0_i32_1144 : BitVec 32 := 0#32
  let c1_i32_1145 : BitVec 32 := 1#32
  let v1011 : BitVec 32 := Scalar.muli c0_i32_1144 c1_i32_1145
  let v1012 : BitVec 32 := Scalar.addi c0_i32_1146 v1011
  v1012.toNat
def k0_dev66 : Nat :=
  let c0_i32_1152 : BitVec 32 := 0#32
  let c1_i32_1150 : BitVec 32 := 1#32
  let c1_i32_1151 : BitVec 32 := 1#32
  let v1019 : BitVec 32 := Scalar.muli c1_i32_1150 c1_i32_1151
  let v1020 : BitVec 32 := Scalar.addi c0_i32_1152 v1019
  v1020.toNat
def k0_dev67 : Nat :=
  let c0_i32_1158 : BitVec 32 := 0#32
  let c2_i32_1156 : BitVec 32 := 2#32
  let c1_i32_1157 : BitVec 32 := 1#32
  let v1027 : BitVec 32 := Scalar.muli c2_i32_1156 c1_i32_1157
  let v1028 : BitVec 32 := Scalar.addi c0_i32_1158 v1027
  v1028.toNat
def k0_dev68 : Nat :=
  let c0_i32_1164 : BitVec 32 := 0#32
  let c3_i32_1162 : BitVec 32 := 3#32
  let c1_i32_1163 : BitVec 32 := 1#32
  let v1035 : BitVec 32 := Scalar.muli c3_i32_1162 c1_i32_1163
  let v1036 : BitVec 32 := Scalar.addi c0_i32_1164 v1035
  v1036.toNat
def k0_dev69 : Nat :=
  let c0_i32_1170 : BitVec 32 := 0#32
  let c4_i32_1168 : BitVec 32 := 4#32
  let c1_i32_1169 : BitVec 32 := 1#32
  let v1043 : BitVec 32 := Scalar.muli c4_i32_1168 c1_i32_1169
  let v1044 : BitVec 32 := Scalar.addi c0_i32_1170 v1043
  v1044.toNat
def k0_dev70 : Nat :=
  let c0_i32_1176 : BitVec 32 := 0#32
  let c5_i32_1174 : BitVec 32 := 5#32
  let c1_i32_1175 : BitVec 32 := 1#32
  let v1051 : BitVec 32 := Scalar.muli c5_i32_1174 c1_i32_1175
  let v1052 : BitVec 32 := Scalar.addi c0_i32_1176 v1051
  v1052.toNat
def k0_dev71 : Nat :=
  let c0_i32_1182 : BitVec 32 := 0#32
  let c6_i32_1180 : BitVec 32 := 6#32
  let c1_i32_1181 : BitVec 32 := 1#32
  let v1059 : BitVec 32 := Scalar.muli c6_i32_1180 c1_i32_1181
  let v1060 : BitVec 32 := Scalar.addi c0_i32_1182 v1059
  v1060.toNat
def k0_dev72 : Nat :=
  let c0_i32_1188 : BitVec 32 := 0#32
  let c7_i32_1186 : BitVec 32 := 7#32
  let c1_i32_1187 : BitVec 32 := 1#32
  let v1067 : BitVec 32 := Scalar.muli c7_i32_1186 c1_i32_1187
  let v1068 : BitVec 32 := Scalar.addi c0_i32_1188 v1067
  v1068.toNat
def k0_dev73 : Nat :=
  let c0_i32_1194 : BitVec 32 := 0#32
  let c8_i32_1192 : BitVec 32 := 8#32
  let c1_i32_1193 : BitVec 32 := 1#32
  let v1075 : BitVec 32 := Scalar.muli c8_i32_1192 c1_i32_1193
  let v1076 : BitVec 32 := Scalar.addi c0_i32_1194 v1075
  v1076.toNat
def k0_dev74 : Nat :=
  let c0_i32_1200 : BitVec 32 := 0#32
  let c9_i32_1198 : BitVec 32 := 9#32
  let c1_i32_1199 : BitVec 32 := 1#32
  let v1083 : BitVec 32 := Scalar.muli c9_i32_1198 c1_i32_1199
  let v1084 : BitVec 32 := Scalar.addi c0_i32_1200 v1083
  v1084.toNat
def k0_dev75 : Nat :=
  let c0_i32_1206 : BitVec 32 := 0#32
  let c10_i32_1204 : BitVec 32 := 10#32
  let c1_i32_1205 : BitVec 32 := 1#32
  let v1091 : BitVec 32 := Scalar.muli c10_i32_1204 c1_i32_1205
  let v1092 : BitVec 32 := Scalar.addi c0_i32_1206 v1091
  v1092.toNat
def k0_dev76 : Nat :=
  let c0_i32_1212 : BitVec 32 := 0#32
  let c11_i32_1210 : BitVec 32 := 11#32
  let c1_i32_1211 : BitVec 32 := 1#32
  let v1099 : BitVec 32 := Scalar.muli c11_i32_1210 c1_i32_1211
  let v1100 : BitVec 32 := Scalar.addi c0_i32_1212 v1099
  v1100.toNat
def k0_dev77 : Nat :=
  let c0_i32_1218 : BitVec 32 := 0#32
  let c12_i32_1216 : BitVec 32 := 12#32
  let c1_i32_1217 : BitVec 32 := 1#32
  let v1107 : BitVec 32 := Scalar.muli c12_i32_1216 c1_i32_1217
  let v1108 : BitVec 32 := Scalar.addi c0_i32_1218 v1107
  v1108.toNat
def k0_dev78 : Nat :=
  let c0_i32_1224 : BitVec 32 := 0#32
  let c13_i32_1222 : BitVec 32 := 13#32
  let c1_i32_1223 : BitVec 32 := 1#32
  let v1115 : BitVec 32 := Scalar.muli c13_i32_1222 c1_i32_1223
  let v1116 : BitVec 32 := Scalar.addi c0_i32_1224 v1115
  v1116.toNat
def k0_dev79 : Nat :=
  let c0_i32_1230 : BitVec 32 := 0#32
  let c14_i32_1228 : BitVec 32 := 14#32
  let c1_i32_1229 : BitVec 32 := 1#32
  let v1123 : BitVec 32 := Scalar.muli c14_i32_1228 c1_i32_1229
  let v1124 : BitVec 32 := Scalar.addi c0_i32_1230 v1123
  v1124.toNat
def k0_dev80 : Nat :=
  let c0_i32_1236 : BitVec 32 := 0#32
  let c15_i32_1234 : BitVec 32 := 15#32
  let c1_i32_1235 : BitVec 32 := 1#32
  let v1131 : BitVec 32 := Scalar.muli c15_i32_1234 c1_i32_1235
  let v1132 : BitVec 32 := Scalar.addi c0_i32_1236 v1131
  v1132.toNat
def k0_dev81 : Nat :=
  let c0_i32_1307 : BitVec 32 := 0#32
  let c0_i32_1305 : BitVec 32 := 0#32
  let c1_i32_1306 : BitVec 32 := 1#32
  let v1190 : BitVec 32 := Scalar.muli c0_i32_1305 c1_i32_1306
  let v1191 : BitVec 32 := Scalar.addi c0_i32_1307 v1190
  v1191.toNat
def k0_dev82 : Nat :=
  let c0_i32_1315 : BitVec 32 := 0#32
  let c1_i32_1313 : BitVec 32 := 1#32
  let c1_i32_1314 : BitVec 32 := 1#32
  let v1199 : BitVec 32 := Scalar.muli c1_i32_1313 c1_i32_1314
  let v1200 : BitVec 32 := Scalar.addi c0_i32_1315 v1199
  v1200.toNat
def k0_dev83 : Nat :=
  let c0_i32_1323 : BitVec 32 := 0#32
  let c2_i32_1321 : BitVec 32 := 2#32
  let c1_i32_1322 : BitVec 32 := 1#32
  let v1208 : BitVec 32 := Scalar.muli c2_i32_1321 c1_i32_1322
  let v1209 : BitVec 32 := Scalar.addi c0_i32_1323 v1208
  v1209.toNat
def k0_dev84 : Nat :=
  let c0_i32_1331 : BitVec 32 := 0#32
  let c3_i32_1329 : BitVec 32 := 3#32
  let c1_i32_1330 : BitVec 32 := 1#32
  let v1217 : BitVec 32 := Scalar.muli c3_i32_1329 c1_i32_1330
  let v1218 : BitVec 32 := Scalar.addi c0_i32_1331 v1217
  v1218.toNat
def k0_dev85 : Nat :=
  let c0_i32_1339 : BitVec 32 := 0#32
  let c4_i32_1337 : BitVec 32 := 4#32
  let c1_i32_1338 : BitVec 32 := 1#32
  let v1226 : BitVec 32 := Scalar.muli c4_i32_1337 c1_i32_1338
  let v1227 : BitVec 32 := Scalar.addi c0_i32_1339 v1226
  v1227.toNat
def k0_dev86 : Nat :=
  let c0_i32_1347 : BitVec 32 := 0#32
  let c5_i32_1345 : BitVec 32 := 5#32
  let c1_i32_1346 : BitVec 32 := 1#32
  let v1235 : BitVec 32 := Scalar.muli c5_i32_1345 c1_i32_1346
  let v1236 : BitVec 32 := Scalar.addi c0_i32_1347 v1235
  v1236.toNat
def k0_dev87 : Nat :=
  let c0_i32_1355 : BitVec 32 := 0#32
  let c6_i32_1353 : BitVec 32 := 6#32
  let c1_i32_1354 : BitVec 32 := 1#32
  let v1244 : BitVec 32 := Scalar.muli c6_i32_1353 c1_i32_1354
  let v1245 : BitVec 32 := Scalar.addi c0_i32_1355 v1244
  v1245.toNat
def k0_dev88 : Nat :=
  let c0_i32_1363 : BitVec 32 := 0#32
  let c7_i32_1361 : BitVec 32 := 7#32
  let c1_i32_1362 : BitVec 32 := 1#32
  let v1253 : BitVec 32 := Scalar.muli c7_i32_1361 c1_i32_1362
  let v1254 : BitVec 32 := Scalar.addi c0_i32_1363 v1253
  v1254.toNat
def k0_dev89 : Nat :=
  let c0_i32_1433 : BitVec 32 := 0#32
  let c8_i32_1431 : BitVec 32 := 8#32
  let c1_i32_1432 : BitVec 32 := 1#32
  let v1310 : BitVec 32 := Scalar.muli c8_i32_1431 c1_i32_1432
  let v1311 : BitVec 32 := Scalar.addi c0_i32_1433 v1310
  v1311.toNat
def k0_dev90 : Nat :=
  let c0_i32_1441 : BitVec 32 := 0#32
  let c9_i32_1439 : BitVec 32 := 9#32
  let c1_i32_1440 : BitVec 32 := 1#32
  let v1319 : BitVec 32 := Scalar.muli c9_i32_1439 c1_i32_1440
  let v1320 : BitVec 32 := Scalar.addi c0_i32_1441 v1319
  v1320.toNat
def k0_dev91 : Nat :=
  let c0_i32_1449 : BitVec 32 := 0#32
  let c10_i32_1447 : BitVec 32 := 10#32
  let c1_i32_1448 : BitVec 32 := 1#32
  let v1328 : BitVec 32 := Scalar.muli c10_i32_1447 c1_i32_1448
  let v1329 : BitVec 32 := Scalar.addi c0_i32_1449 v1328
  v1329.toNat
def k0_dev92 : Nat :=
  let c0_i32_1457 : BitVec 32 := 0#32
  let c11_i32_1455 : BitVec 32 := 11#32
  let c1_i32_1456 : BitVec 32 := 1#32
  let v1337 : BitVec 32 := Scalar.muli c11_i32_1455 c1_i32_1456
  let v1338 : BitVec 32 := Scalar.addi c0_i32_1457 v1337
  v1338.toNat
def k0_dev93 : Nat :=
  let c0_i32_1465 : BitVec 32 := 0#32
  let c12_i32_1463 : BitVec 32 := 12#32
  let c1_i32_1464 : BitVec 32 := 1#32
  let v1346 : BitVec 32 := Scalar.muli c12_i32_1463 c1_i32_1464
  let v1347 : BitVec 32 := Scalar.addi c0_i32_1465 v1346
  v1347.toNat
def k0_dev94 : Nat :=
  let c0_i32_1473 : BitVec 32 := 0#32
  let c13_i32_1471 : BitVec 32 := 13#32
  let c1_i32_1472 : BitVec 32 := 1#32
  let v1355 : BitVec 32 := Scalar.muli c13_i32_1471 c1_i32_1472
  let v1356 : BitVec 32 := Scalar.addi c0_i32_1473 v1355
  v1356.toNat
def k0_dev95 : Nat :=
  let c0_i32_1481 : BitVec 32 := 0#32
  let c14_i32_1479 : BitVec 32 := 14#32
  let c1_i32_1480 : BitVec 32 := 1#32
  let v1364 : BitVec 32 := Scalar.muli c14_i32_1479 c1_i32_1480
  let v1365 : BitVec 32 := Scalar.addi c0_i32_1481 v1364
  v1365.toNat
def k0_dev96 : Nat :=
  let c0_i32_1489 : BitVec 32 := 0#32
  let c15_i32_1487 : BitVec 32 := 15#32
  let c1_i32_1488 : BitVec 32 := 1#32
  let v1373 : BitVec 32 := Scalar.muli c15_i32_1487 c1_i32_1488
  let v1374 : BitVec 32 := Scalar.addi c0_i32_1489 v1373
  v1374.toNat
def k0_dev97 : Nat :=
  let c0_i32_1841 : BitVec 32 := 0#32
  let c0_i32_1839 : BitVec 32 := 0#32
  let c1_i32_1840 : BitVec 32 := 1#32
  let v1632 : BitVec 32 := Scalar.muli c0_i32_1839 c1_i32_1840
  let v1633 : BitVec 32 := Scalar.addi c0_i32_1841 v1632
  v1633.toNat
def k0_dev98 : Nat :=
  let c0_i32_1847 : BitVec 32 := 0#32
  let c1_i32_1845 : BitVec 32 := 1#32
  let c1_i32_1846 : BitVec 32 := 1#32
  let v1640 : BitVec 32 := Scalar.muli c1_i32_1845 c1_i32_1846
  let v1641 : BitVec 32 := Scalar.addi c0_i32_1847 v1640
  v1641.toNat
def k0_dev99 : Nat :=
  let c0_i32_1853 : BitVec 32 := 0#32
  let c2_i32_1851 : BitVec 32 := 2#32
  let c1_i32_1852 : BitVec 32 := 1#32
  let v1648 : BitVec 32 := Scalar.muli c2_i32_1851 c1_i32_1852
  let v1649 : BitVec 32 := Scalar.addi c0_i32_1853 v1648
  v1649.toNat
def k0_dev100 : Nat :=
  let c0_i32_1859 : BitVec 32 := 0#32
  let c3_i32_1857 : BitVec 32 := 3#32
  let c1_i32_1858 : BitVec 32 := 1#32
  let v1656 : BitVec 32 := Scalar.muli c3_i32_1857 c1_i32_1858
  let v1657 : BitVec 32 := Scalar.addi c0_i32_1859 v1656
  v1657.toNat
def k0_dev101 : Nat :=
  let c0_i32_1865 : BitVec 32 := 0#32
  let c4_i32_1863 : BitVec 32 := 4#32
  let c1_i32_1864 : BitVec 32 := 1#32
  let v1664 : BitVec 32 := Scalar.muli c4_i32_1863 c1_i32_1864
  let v1665 : BitVec 32 := Scalar.addi c0_i32_1865 v1664
  v1665.toNat
def k0_dev102 : Nat :=
  let c0_i32_1871 : BitVec 32 := 0#32
  let c5_i32_1869 : BitVec 32 := 5#32
  let c1_i32_1870 : BitVec 32 := 1#32
  let v1672 : BitVec 32 := Scalar.muli c5_i32_1869 c1_i32_1870
  let v1673 : BitVec 32 := Scalar.addi c0_i32_1871 v1672
  v1673.toNat
def k0_dev103 : Nat :=
  let c0_i32_1877 : BitVec 32 := 0#32
  let c6_i32_1875 : BitVec 32 := 6#32
  let c1_i32_1876 : BitVec 32 := 1#32
  let v1680 : BitVec 32 := Scalar.muli c6_i32_1875 c1_i32_1876
  let v1681 : BitVec 32 := Scalar.addi c0_i32_1877 v1680
  v1681.toNat
def k0_dev104 : Nat :=
  let c0_i32_1883 : BitVec 32 := 0#32
  let c7_i32_1881 : BitVec 32 := 7#32
  let c1_i32_1882 : BitVec 32 := 1#32
  let v1688 : BitVec 32 := Scalar.muli c7_i32_1881 c1_i32_1882
  let v1689 : BitVec 32 := Scalar.addi c0_i32_1883 v1688
  v1689.toNat
def k0_dev105 : Nat :=
  let c0_i32_1889 : BitVec 32 := 0#32
  let c8_i32_1887 : BitVec 32 := 8#32
  let c1_i32_1888 : BitVec 32 := 1#32
  let v1696 : BitVec 32 := Scalar.muli c8_i32_1887 c1_i32_1888
  let v1697 : BitVec 32 := Scalar.addi c0_i32_1889 v1696
  v1697.toNat
def k0_dev106 : Nat :=
  let c0_i32_1895 : BitVec 32 := 0#32
  let c9_i32_1893 : BitVec 32 := 9#32
  let c1_i32_1894 : BitVec 32 := 1#32
  let v1704 : BitVec 32 := Scalar.muli c9_i32_1893 c1_i32_1894
  let v1705 : BitVec 32 := Scalar.addi c0_i32_1895 v1704
  v1705.toNat
def k0_dev107 : Nat :=
  let c0_i32_1901 : BitVec 32 := 0#32
  let c10_i32_1899 : BitVec 32 := 10#32
  let c1_i32_1900 : BitVec 32 := 1#32
  let v1712 : BitVec 32 := Scalar.muli c10_i32_1899 c1_i32_1900
  let v1713 : BitVec 32 := Scalar.addi c0_i32_1901 v1712
  v1713.toNat
def k0_dev108 : Nat :=
  let c0_i32_1907 : BitVec 32 := 0#32
  let c11_i32_1905 : BitVec 32 := 11#32
  let c1_i32_1906 : BitVec 32 := 1#32
  let v1720 : BitVec 32 := Scalar.muli c11_i32_1905 c1_i32_1906
  let v1721 : BitVec 32 := Scalar.addi c0_i32_1907 v1720
  v1721.toNat
def k0_dev109 : Nat :=
  let c0_i32_1913 : BitVec 32 := 0#32
  let c12_i32_1911 : BitVec 32 := 12#32
  let c1_i32_1912 : BitVec 32 := 1#32
  let v1728 : BitVec 32 := Scalar.muli c12_i32_1911 c1_i32_1912
  let v1729 : BitVec 32 := Scalar.addi c0_i32_1913 v1728
  v1729.toNat
def k0_dev110 : Nat :=
  let c0_i32_1919 : BitVec 32 := 0#32
  let c13_i32_1917 : BitVec 32 := 13#32
  let c1_i32_1918 : BitVec 32 := 1#32
  let v1736 : BitVec 32 := Scalar.muli c13_i32_1917 c1_i32_1918
  let v1737 : BitVec 32 := Scalar.addi c0_i32_1919 v1736
  v1737.toNat
def k0_dev111 : Nat :=
  let c0_i32_1925 : BitVec 32 := 0#32
  let c14_i32_1923 : BitVec 32 := 14#32
  let c1_i32_1924 : BitVec 32 := 1#32
  let v1744 : BitVec 32 := Scalar.muli c14_i32_1923 c1_i32_1924
  let v1745 : BitVec 32 := Scalar.addi c0_i32_1925 v1744
  v1745.toNat
def k0_dev112 : Nat :=
  let c0_i32_1931 : BitVec 32 := 0#32
  let c15_i32_1929 : BitVec 32 := 15#32
  let c1_i32_1930 : BitVec 32 := 1#32
  let v1752 : BitVec 32 := Scalar.muli c15_i32_1929 c1_i32_1930
  let v1753 : BitVec 32 := Scalar.addi c0_i32_1931 v1752
  v1753.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x4096 : Shape := ⟨2, ![256, 4096]⟩
abbrev S4096x512 : Shape := ⟨2, ![4096, 512]⟩
abbrev S512x4096 : Shape := ⟨2, ![512, 4096]⟩
abbrev S256x512 : Shape := ⟨2, ![256, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x4096, .bf16⟩
  | .hbm, ⟨5, _⟩ => ⟨S512x4096, .bf16⟩
  | .hbm, ⟨6, _⟩ => ⟨S512x4096, .bf16⟩
  | .hbm, ⟨7, _⟩ => ⟨S256x512, .f32⟩
  | .hbm, ⟨8, _⟩ => ⟨S256x512, .bf16⟩
  | .hbm, ⟨9, _⟩ => ⟨S_, .bf16⟩
  | .hbm, ⟨10, _⟩ => ⟨S256x512, .bf16⟩
  | .hbm, ⟨11, _⟩ => ⟨S256x512, .bf16⟩
  | .hbm, ⟨12, _⟩ => ⟨S256x4096, .f32⟩
  | .hbm, ⟨13, _⟩ => ⟨S256x4096, .bf16⟩
  | .hbm, ⟨14, _⟩ => ⟨S256x512, .f32⟩
  | .hbm, ⟨15, _⟩ => ⟨S256x512, .bf16⟩
  | .hbm, ⟨16, _⟩ => ⟨S_, .bf16⟩
  | .hbm, ⟨17, _⟩ => ⟨S256x512, .bf16⟩
  | .hbm, ⟨18, _⟩ => ⟨S256x512, .bf16⟩
  | .hbm, ⟨19, _⟩ => ⟨S256x4096, .f32⟩
  | .hbm, ⟨20, _⟩ => ⟨S256x4096, .bf16⟩
  | .hbm, ⟨21, _⟩ => ⟨S256x512, .f32⟩
  | .hbm, ⟨22, _⟩ => ⟨S256x512, .bf16⟩
  | .hbm, ⟨23, _⟩ => ⟨S_, .bf16⟩
  | .hbm, ⟨24, _⟩ => ⟨S256x512, .bf16⟩
  | .hbm, ⟨25, _⟩ => ⟨S256x512, .bf16⟩
  | .hbm, ⟨26, _⟩ => ⟨S256x4096, .f32⟩
  | .hbm, ⟨27, _⟩ => ⟨S256x4096, .bf16⟩
  | .hbm, ⟨28, _⟩ => ⟨S256x4096, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Text.lean ====
/-
  The kernel's body written with its repetitions named. The printed body is a straight line of about
  five hundred memory operations cut into windows; here each operation that is repeated for every
  device is one definition over the device's number, a run of them is `each`, and a layer is one
  definition over its number. `body_eq` states that the printed body is this text.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.SL.Sem

variable {F : FTy → Type} [FloatOps F]

/-- A program of the kernel's body. -/
abbrev BodyProg (F : FTy → Type) [FloatOps F] (α : Type) : Type 1 := Prog (TpuEff nD τ sig (Elt F) Λ₀ .tc) α

/-! ## The buffers and semaphores of the body -/

/-- The staging buffers: the block of `x`, of the three input weights and of the three output weights, and the result. -/
abbrev xM : Memref sig .tc .vmem S256x256 .bf16 := Memref.whole cc0_stg0_0
@[inherit_doc xM] abbrev win0M : Memref sig .tc .vmem S256x512 .bf16 := Memref.whole cc0_stg1_0
@[inherit_doc xM] abbrev wout0M : Memref sig .tc .vmem S512x256 .bf16 := Memref.whole cc0_stg2_0
@[inherit_doc xM] abbrev win1M : Memref sig .tc .vmem S256x512 .bf16 := Memref.whole cc0_stg3_0
@[inherit_doc xM] abbrev wout1M : Memref sig .tc .vmem S512x256 .bf16 := Memref.whole cc0_stg4_0
@[inherit_doc xM] abbrev win2M : Memref sig .tc .vmem S256x512 .bf16 := Memref.whole cc0_stg5_0
@[inherit_doc xM] abbrev wout2M : Memref sig .tc .vmem S512x256 .bf16 := Memref.whole cc0_stg6_0
@[inherit_doc xM] abbrev outM : Memref sig .tc .vmem S256x256 .f32 := Memref.whole cc0_stg7_0
/-- The scratch buffers: the partial product, the slots the partial products of the others land in, the
    gathered activations, and the chunk this device reduced. -/
abbrev partM : Memref sig .tc .vmem S256x512 .bf16 := Memref.whole cc0_scratch0
@[inherit_doc partM] abbrev slotM : Memref sig .tc .vmem S16x16x512 .bf16 := Memref.whole cc0_scratch1
@[inherit_doc partM] abbrev actM : Memref sig .tc .vmem S256x512 .bf16 := Memref.whole cc0_scratch2
@[inherit_doc partM] abbrev redM : Memref sig .tc .vmem S16x512 .bf16 := Memref.whole cc0_scratch3

/-- The sixteen rows of device `q`'s chunk are inside the 256 rows. -/
theorem rows_inb (q : Fin 16) : ∀ a, (![16 * q.val, 0] : Fin 2 → Nat) a + S16x512.size a ≤ S256x512.size a := by
  revert q; decide
/-- Slot `q` is inside the sixteen slots. -/
theorem slot_inb (q : Fin 16) : ∀ a, (![q.val, 0, 0] : Fin 3 → Nat) a + S1x16x512.size a ≤ S16x16x512.size a := by
  revert q; decide
/-- Semaphore `q` is inside the array of sixteen. -/
theorem sem_inb (q : Fin 16) : ∀ a, (![q.val] : Fin 1 → Nat) a + S1.size a ≤ S16.size a := by
  revert q; decide
/-- The rows of a chunk are whole words, -/
theorem rows_words (q : Fin 16) : (Rect.unit (s := S256x512) ![16 * q.val, 0] S16x512.size (rows_inb q)).WholeWords (EltTy.packing .bf16) := by
  revert q; decide
/-- and so is a slot. -/
theorem slot_words (q : Fin 16) : (Rect.unit (s := S16x16x512) ![q.val, 0, 0] S1x16x512.size (slot_inb q)).WholeWords (EltTy.packing .bf16) := by
  revert q; decide

/-- The rows of device `q`'s chunk, in the partial product and in the gathered activations; -/
abbrev partRows (q : Fin 16) : Memref sig .tc .vmem S16x512 .bf16 :=
  partM.slice (Rect.unit (s := S256x512) ![16 * q.val, 0] S16x512.size (rows_inb q)) (fun _ => rfl)
@[inherit_doc partRows] abbrev actRows (q : Fin 16) : Memref sig .tc .vmem S16x512 .bf16 :=
  actM.slice (Rect.unit (s := S256x512) ![16 * q.val, 0] S16x512.size (rows_inb q)) (fun _ => rfl)
/-- the slot device `q`'s partial product lands in; -/
abbrev slot (q : Fin 16) : Memref sig .tc .vmem S16x512 .bf16 :=
  (slotM.slice (Rect.unit (s := S16x16x512) ![q.val, 0, 0] S1x16x512.size (slot_inb q)) (fun _ => rfl)).squeeze S16x512 squeezes_S1x16x512_S16x512
/-- the slot, the rows and the semaphore of the device's own number, as the kernel computes them from it. -/
abbrev mySlot (c : Dev nD) : Memref sig .tc .vmem S16x512 .bf16 :=
  (slotM.slice (Rect.unit (s := S16x16x512) (k0_off2 c) S1x16x512.size (k0_off2_inb c)) (fun _ => rfl)).squeeze S16x512 squeezes_S1x16x512_S16x512
@[inherit_doc mySlot] abbrev myActRows (c : Dev nD) : Memref sig .tc .vmem S16x512 .bf16 :=
  actM.slice (Rect.unit (s := S256x512) (k0_off3 c) S16x512.size (k0_off3_inb c)) (fun _ => rfl)

/-- Semaphore `q` of an array of sixteen, -/
abbrev semAt (A : DmaSems sig S16) (q : Fin 16) : DmaSem sig :=
  ((A.slice (Rect.unit (s := S16) ![q.val] S1.size (sem_inb q))).squeeze S_ squeezes_S1_S_).sem
/-- and the one of the device's own number. -/
abbrev mySem (A : DmaSems sig S16) (c : Dev nD) : DmaSem sig :=
  ((A.slice (Rect.unit (s := S16) (k0_off1 c) S1.size (k0_off1_inb c))).squeeze S_ squeezes_S1_S_).sem

/-! ## The repeated operations -/

/-- One operation for every device of a list, in order. -/
def each (l : List (Fin 16)) (f : Fin 16 → BodyProg F PUnit) : BodyProg F PUnit :=
  match l with
  | [] => pure ⟨⟩
  | q :: l => f q >>= fun _ => each l f

/-- The devices, and the first and the last eight of them. -/
abbrev all16 : List (Fin 16) := [0, 1, 2, 3, 4, 5, 6, 7, 8, 9, 10, 11, 12, 13, 14, 15]
@[inherit_doc all16] abbrev low8 : List (Fin 16) := [0, 1, 2, 3, 4, 5, 6, 7]
@[inherit_doc all16] abbrev high8 : List (Fin 16) := [8, 9, 10, 11, 12, 13, 14, 15]

/-- Tell device `q` that this device has entered. -/
def sayReady (q : Fin 16) : BodyProg F PUnit := semSignalWord (q : Dev nD) cc0_scratch8.sem 1#32

/-- Send the rows of device `q`'s chunk of the partial product to it. -/
def sendPart (c : Dev nD) (q : Fin 16) : BodyProg F PUnit :=
  Prog.lift (.enqueueDma (partRows q) (.remote (Dev.tc (q : Dev nD)) (mySlot c) (.dma (semAt cc0_scratch4 q))) (.dma (mySem cc0_scratch5 c))
    ((Memref.isWhole_whole _).wordExact_slice rfl _ (rows_words q)) (((Memref.isWhole_whole _).wordExact_slice rfl _ (k0_off2_wordsbf16 c)).reshape _ _) ⟨⟨rfl, Or.inl rfl⟩, trivial⟩)

/-- Wait for the partial product of device `q`. -/
def takePart (q : Fin 16) : BodyProg F PUnit :=
  Prog.lift (.waitDma2 (semAt cc0_scratch5 q) (partRows 0) (slot q)
    ((Memref.isWhole_whole _).wordExact_slice rfl _ (rows_words 0)) (((Memref.isWhole_whole _).wordExact_slice rfl _ (slot_words q)).reshape _ _))

/-- Wait until the rows sent to device `q` have been read. -/
def donePart (c : Dev nD) (q : Fin 16) : BodyProg F PUnit :=
  Prog.lift (.waitDma2 (semAt cc0_scratch4 q) (mySlot c) (partRows q)
    (((Memref.isWhole_whole _).wordExact_slice rfl _ (k0_off2_wordsbf16 c)).reshape _ _) ((Memref.isWhole_whole _).wordExact_slice rfl _ (rows_words q)))

/-- Send the reduced chunk to device `q`. -/
def sendRed (c : Dev nD) (q : Fin 16) : BodyProg F PUnit :=
  Prog.lift (.enqueueDma redM (.remote (Dev.tc (q : Dev nD)) (myActRows c) (.dma (semAt cc0_scratch6 q))) (.dma (mySem cc0_scratch7 c))
    (Memref.isWhole_whole _).wordExact ((Memref.isWhole_whole _).wordExact_slice rfl _ (k0_off3_wordsbf16 c)) ⟨⟨rfl, Or.inl rfl⟩, trivial⟩)

/-- Wait for the reduced chunk of device `q`. -/
def takeRed (q : Fin 16) : BodyProg F PUnit :=
  Prog.lift (.waitDma2 (semAt cc0_scratch7 q) redM (actRows q)
    (Memref.isWhole_whole _).wordExact ((Memref.isWhole_whole _).wordExact_slice rfl _ (rows_words q)))

/-- Wait until the chunk sent to device `q` has been read. -/
def doneRed (c : Dev nD) (q : Fin 16) : BodyProg F PUnit :=
  Prog.lift (.waitDma2 (semAt cc0_scratch6 q) (myActRows c) redM
    ((Memref.isWhole_whole _).wordExact_slice rfl _ (k0_off3_wordsbf16 c)) (Memref.isWhole_whole _).wordExact)

/-! ## The loads and stores -/

/-- The first product: of the block of `x` and of the first input weight, into the partial product. -/
def first : BodyProg F PUnit := do
  let v : Vec F S256x256 .bf16 ← Prog.lift (.load xM (Rect.unit (s := S256x256) ![0, 0] S256x256.size inb_S256x256_S256x256_0_0).toLoadRect (View.loadsAt_vmem h_S256x256))
  let w : Vec F S256x512 .bf16 ← Prog.lift (.load win0M (Rect.unit (s := S256x512) ![0, 0] S256x512.size inb_S256x512_S256x512_0_0).toLoadRect (View.loadsAt_vmem h_S256x512))
  let _ : Vec F S256x512 .bf16 ← Prog.lift (.load partM (Rect.unit (s := S256x512) ![0, 0] S256x512.size inb_S256x512_S256x512_0_0).toLoadRect (View.loadsAt_vmem h_S256x512))
  Prog.lift (.store partM (Rect.unit (s := S256x512) ![0, 0] S256x512.size inb_S256x512_S256x512_0_0) (k0_pay1 v w) Finset.univ (View.stores_vmem h_S256x512 ((Memref.isWhole_whole cc0_scratch0).storeExact_slice rfl _ packedbf16_S256x512_S256x512_0_0) (fun _ => rfl)) (.inl rfl))

/-- The reduction: the sum of the sixteen slots, its negative part cut off. -/
def reduce : BodyProg F PUnit := do
  let v : Vec F S16x16x512 .bf16 ← Prog.lift (.load slotM (Rect.unit (s := S16x16x512) ![0, 0, 0] S16x16x512.size inb_S16x16x512_S16x16x512_0_0_0).toLoadRect (View.loadsAt_vmem h_S16x16x512))
  let _ : Vec F S16x512 .bf16 ← Prog.lift (.load redM (Rect.unit (s := S16x512) ![0, 0] S16x512.size inb_S16x512_S16x512_0_0).toLoadRect (View.loadsAt_vmem h_S16x512))
  Prog.lift (.store redM (Rect.unit (s := S16x512) ![0, 0] S16x512.size inb_S16x512_S16x512_0_0) (k0_pay2 v) Finset.univ (View.stores_vmem h_S16x512 ((Memref.isWhole_whole cc0_scratch3).storeExact_slice rfl _ packedbf16_S16x512_S16x512_0_0) (fun _ => rfl)) (.inl rfl))

/-- The two products of a layer over the first, -/
def lowStep (wo : FVec F S512x256 .bf16) (wi : FVec F S256x512 .bf16) : BodyProg F PUnit := do
  let v : Vec F S128x512 .bf16 ← Prog.lift (.load actM (Rect.unit (s := S256x512) ![0, 0] S128x512.size inb_S256x512_S128x512_0_0).toLoadRect (View.loadsAt_vmem h_S128x512))
  let _ : Vec F S128x512 .bf16 ← Prog.lift (.load partM (Rect.unit (s := S256x512) ![0, 0] S128x512.size inb_S256x512_S128x512_0_0).toLoadRect (View.loadsAt_vmem h_S128x512))
  Prog.lift (.store partM (Rect.unit (s := S256x512) ![0, 0] S128x512.size inb_S256x512_S128x512_0_0) (k0_pay5 wo wi v) Finset.univ (View.stores_vmem h_S128x512 ((Memref.isWhole_whole cc0_scratch0).storeExact_slice rfl _ packedbf16_S256x512_S128x512_0_0) (fun _ => rfl)) (.inl rfl))

/-- and over the last 128 rows. -/
def highStep (wo : FVec F S512x256 .bf16) (wi : FVec F S256x512 .bf16) : BodyProg F PUnit := do
  let v : Vec F S128x512 .bf16 ← Prog.lift (.load actM (Rect.unit (s := S256x512) ![128, 0] S128x512.size inb_S256x512_S128x512_128_0).toLoadRect (View.loadsAt_vmem h_S128x512))
  let _ : Vec F S128x512 .bf16 ← Prog.lift (.load partM (Rect.unit (s := S256x512) ![128, 0] S128x512.size inb_S256x512_S128x512_128_0).toLoadRect (View.loadsAt_vmem h_S128x512))
  Prog.lift (.store partM (Rect.unit (s := S256x512) ![128, 0] S128x512.size inb_S256x512_S128x512_128_0) (k0_pay5 wo wi v) Finset.univ (View.stores_vmem h_S128x512 ((Memref.isWhole_whole cc0_scratch0).storeExact_slice rfl _ packedbf16_S256x512_S128x512_128_0) (fun _ => rfl)) (.inl rfl))

/-- The last product: of the gathered activations and of the last output weight, into the result. -/
def last : BodyProg F PUnit := do
  let v : Vec F S256x512 .bf16 ← Prog.lift (.load actM (Rect.unit (s := S256x512) ![0, 0] S256x512.size inb_S256x512_S256x512_0_0).toLoadRect (View.loadsAt_vmem h_S256x512))
  let w : Vec F S512x256 .bf16 ← Prog.lift (.load wout2M (Rect.unit (s := S512x256) ![0, 0] S512x256.size inb_S512x256_S512x256_0_0).toLoadRect (View.loadsAt_vmem h_S512x256))
  let _ : Vec F S256x256 .f32 ← Prog.lift (.load outM (Rect.unit (s := S256x256) ![0, 0] S256x256.size inb_S256x256_S256x256_0_0).toLoadRect (View.loadsAt_vmem h_S256x256))
  Prog.lift (.store outM (Rect.unit (s := S256x256) ![0, 0] S256x256.size inb_S256x256_S256x256_0_0) (k0_pay14 v w) Finset.univ (View.stores_vmem_bits_univ h_S256x256 rfl) (.inl rfl))

/-! ## The phases -/

/-- Up to the first exchange: everyone has entered, and the first partial product has been sent. -/
def opening (c : Dev nD) : BodyProg F PUnit := do
  each all16 sayReady
  semWaitWord cc0_scratch8.sem 16#32
  first
  each all16 (sendPart c)

/-- A layer's exchange after the first: the slots filled, the partial product and the reduced chunk free again. -/
def collect (c : Dev nD) : BodyProg F PUnit := do
  each all16 takePart
  each all16 (donePart c)

/-- A layer that is followed by another: its activations gathered in two halves, each half multiplied on and sent. -/
def middle (c : Dev nD) (woM : Memref sig .tc .vmem S512x256 .bf16) (wiM : Memref sig .tc .vmem S256x512 .bf16) : BodyProg F PUnit := do
  each all16 (sendRed c)
  let wo : Vec F S512x256 .bf16 ← Prog.lift (.load woM (Rect.unit (s := S512x256) ![0, 0] S512x256.size inb_S512x256_S512x256_0_0).toLoadRect (View.loadsAt_vmem h_S512x256))
  let wi : Vec F S256x512 .bf16 ← Prog.lift (.load wiM (Rect.unit (s := S256x512) ![0, 0] S256x512.size inb_S256x512_S256x512_0_0).toLoadRect (View.loadsAt_vmem h_S256x512))
  each low8 takeRed
  lowStep (k0_pay3 wo) (k0_pay4 wi)
  each low8 (sendPart c)
  each high8 takeRed
  highStep (k0_pay3 wo) (k0_pay4 wi)
  each high8 (sendPart c)

/-- The last layer: its activations gathered whole, the result computed. -/
def closing (c : Dev nD) : BodyProg F PUnit := do
  each all16 (sendRed c)
  each all16 takeRed
  last
  each all16 (doneRed c)

/-- The whole body on device `c`. -/
def bodyOn (c : Dev nD) : BodyProg F PUnit := do
  opening c
  collect c
  reduce
  middle c wout0M win1M
  collect c
  each all16 (doneRed c)
  reduce
  middle c wout1M win2M
  collect c
  each all16 (doneRed c)
  reduce
  closing c

set_option maxRecDepth 65536 in
set_option maxHeartbeats 4000000 in
/-- The printed body is this text. -/
theorem body_eq : cc0_body (F := F) xM (Memref.isWhole_whole _) win0M (Memref.isWhole_whole _) wout0M (Memref.isWhole_whole _) win1M (Memref.isWhole_whole _)
      wout1M (Memref.isWhole_whole _) win2M (Memref.isWhole_whole _) wout2M (Memref.isWhole_whole _) outM (Memref.isWhole_whole _)
      partM (Memref.isWhole_whole _) slotM (Memref.isWhole_whole _) actM (Memref.isWhole_whole _) redM (Memref.isWhole_whole _)
      cc0_scratch4 cc0_scratch5 cc0_scratch6 cc0_scratch7 cc0_scratch8
    = Prog.op .deviceId bodyOn := by
  rfl

end Cert.Proof

end
-- ==== Proof.Contents.lean ====
/-
  What the arrays hold. From the inputs of all devices: each device's partial product of a layer, the
  sixteen chunks that land in its slots, the chunk it reduces, the gathered activations — the same on
  every device — and the result. Then the geometry of the pieces that travel: the rows of a chunk and
  a slot as sets of elements, and what a copy writes over them.
-/
module

public import proofs.«01_k».proof.Proof.Text
public import Idealize.ShloMosaic.Lib.ValueLayout

@[expose] public section

noncomputable section

namespace Cert.Proof

open Cert.KernelIdeal Cert.KernelIdeal.Gen

open Idealize.ShloMosaic
open Idealize.ShloMosaic.ValueIdx

variable {F : FTy → Type} [FloatOps F]

/-! ## The values -/

/-- Every device's blocks: of `x`, and by layer of the input and of the output weights. -/
structure Inputs (F : FTy → Type) where
  /-- The block of `x`, -/
  x : Dev nD → Vec F S256x256 .bf16
  /-- the blocks of the input weights, -/
  win : ℕ → Dev nD → Vec F S256x512 .bf16
  /-- and the blocks of the output weights. -/
  wout : ℕ → Dev nD → Vec F S512x256 .bf16

/-- Row `r` of chunk `q` among the 256 rows. -/
def chunkRow (q : Fin 16) (r : Fin 16) : Fin 256 := ⟨16 * q.val + r.val, by omega⟩

/-- What lands in the slots of device `d` when the partial products are `P`: the rows of its chunk, of every device. -/
def slotsOf (P : Dev nD → Vec F S256x512 .bf16) (d : Dev nD) : Vec F S16x16x512 .bf16 :=
  fun i => P (i 0) (ix2 (chunkRow d (i 1)) (i 2))

/-- What is gathered from the reduced chunks `R`. -/
def gather (R : Dev nD → Vec F S16x512 .bf16) : Vec F S256x512 .bf16 :=
  fun i => R ⟨(i 0).val / 16, Nat.div_lt_of_lt_mul (i 0).isLt⟩ (ix2 (⟨(i 0).val % 16, Nat.mod_lt _ (by decide)⟩ : Fin 16) (i 1))

/-- The first 128 rows, -/
def lowHalf (a : Vec F S256x512 .bf16) : Vec F S128x512 .bf16 := fun i => a (ix2 (⟨(i 0).val, Nat.lt_trans (i 0).isLt (by decide)⟩ : Fin 256) (i 1))
/-- the last 128 rows, -/
def highHalf (a : Vec F S256x512 .bf16) : Vec F S128x512 .bf16 :=
  fun i => a (ix2 (⟨128 + (i 0).val, Nat.add_lt_add_left (i 0).isLt 128⟩ : Fin 256) (i 1))
/-- and two halves put together. -/
def halves (lo hi : Vec F S128x512 .bf16) : Vec F S256x512 .bf16 :=
  fun i => if h : (i 0).val < 128 then lo (ix2 (⟨(i 0).val, h⟩ : Fin 128) (i 1))
    else hi (ix2 (⟨(i 0).val - 128, by have : (i 0).val < 256 := (i 0).isLt; omega⟩ : Fin 128) (i 1))

/-- The chunk each device reduces from the partial products `P`. -/
def redOf (P : Dev nD → Vec F S256x512 .bf16) (d : Dev nD) : Vec F S16x512 .bf16 := k0_pay2 (slotsOf P d)

variable (A : Inputs F)

/-- The next layer's partial product on device `c`, from the activations `a`. -/
def nextPart (r : ℕ) (a : Vec F S256x512 .bf16) (c : Dev nD) : Vec F S256x512 .bf16 :=
  halves (k0_pay5 (k0_pay3 (A.wout r c)) (k0_pay4 (A.win (r + 1) c)) (lowHalf a))
    (k0_pay5 (k0_pay3 (A.wout r c)) (k0_pay4 (A.win (r + 1) c)) (highHalf a))

/-- Layer `r`'s partial product on each device. -/
def part : ℕ → Dev nD → Vec F S256x512 .bf16
  | 0 => fun c => k0_pay1 (A.x c) (A.win 0 c)
  | r + 1 => fun c => nextPart A r (gather (redOf (part r))) c

/-- Layer `r`'s slots of device `d`, filled; -/
def slots (r : ℕ) (d : Dev nD) : Vec F S16x16x512 .bf16 := slotsOf (part A r) d
/-- its reduced chunk; -/
def red (r : ℕ) (d : Dev nD) : Vec F S16x512 .bf16 := redOf (part A r) d
/-- the gathered activations; -/
def act (r : ℕ) : Vec F S256x512 .bf16 := gather (red A r)
/-- and the result on device `c`. -/
def result (c : Dev nD) : Vec F S256x256 .f32 := k0_pay14 (act A 2) (A.wout 2 c)

theorem red_eq (r : ℕ) (d : Dev nD) : red A r d = k0_pay2 (slots A r d) := rfl
theorem part_zero (c : Dev nD) : part A 0 c = k0_pay1 (A.x c) (A.win 0 c) := rfl
theorem part_succ (r : ℕ) (c : Dev nD) : part A (r + 1) c
    = halves (k0_pay5 (k0_pay3 (A.wout r c)) (k0_pay4 (A.win (r + 1) c)) (lowHalf (act A r)))
        (k0_pay5 (k0_pay3 (A.wout r c)) (k0_pay4 (A.win (r + 1) c)) (highHalf (act A r))) := rfl

omit [FloatOps F] in
/-- A buffer whose first 128 rows are `lo` is on them what the two halves together are, -/
theorem halves_low (lo hi : Vec F S128x512 .bf16) (x : S128x512.Idx) :
    halves lo hi (ix2 (⟨(x 0).val, Nat.lt_trans (x 0).isLt (by decide)⟩ : Fin 256) (x 1)) = lo x := by
  unfold halves; rw [dif_pos (show (x 0).val < 128 from (x 0).isLt)]
  exact congrArg lo (eq_ix2 (n0 := 128) (n1 := 512) x).symm
omit [FloatOps F] in
/-- and likewise on the last. -/
theorem halves_high (lo hi : Vec F S128x512 .bf16) (x : S128x512.Idx) :
    halves lo hi (ix2 (⟨128 + (x 0).val, Nat.add_lt_add_left (x 0).isLt 128⟩ : Fin 256) (x 1)) = hi x := by
  unfold halves; rw [dif_neg (by show ¬ 128 + (x 0).val < 128; omega)]
  refine congrArg hi ?_
  refine Eq.trans ?_ (eq_ix2 (n0 := 128) (n1 := 512) x).symm
  exact congrArg (fun k => ix2 (n0 := 128) (n1 := 512) k (x 1)) (Fin.ext (by show 128 + (x 0).val - 128 = (x 0).val; omega))

/-! ## The pieces, by coordinates -/

omit [FloatOps F] in
theorem mySlot_eq (c : Dev nD) : mySlot c = slot c := by
  have h : ∀ (o : Fin 3 → Nat) (ho : ∀ a, o a + S1x16x512.size a ≤ S16x16x512.size a), o = ![c.val, 0, 0] →
      (slotM.slice (Rect.unit (s := S16x16x512) o S1x16x512.size ho) (fun _ => rfl)).squeeze S16x512 squeezes_S1x16x512_S16x512 = slot c := by
    rintro o ho rfl; rfl
  exact h _ (k0_off2_inb c) (k0_off2_eq c)
omit [FloatOps F] in
theorem myActRows_eq (c : Dev nD) : myActRows c = actRows c := by
  have h : ∀ (o : Fin 2 → Nat) (ho : ∀ a, o a + S16x512.size a ≤ S256x512.size a), o = ![16 * c.val, 0] →
      actM.slice (Rect.unit (s := S256x512) o S16x512.size ho) (fun _ => rfl) = actRows c := by
    rintro o ho rfl; rfl
  exact h _ (k0_off3_inb c) (k0_off3_eq c)

/-- The element of the partial product under an element of a chunk's rows, -/
theorem partRows_emb (q : Fin 16) (x : S16x512.Idx) : (partRows q).view.emb x = ix2 (chunkRow q (x 0)) (x 1) := by
  funext a; match a with
  | ⟨0, _⟩ => exact Fin.ext (by show 16 * q.val + 1 * (x 0).val = 16 * q.val + (x 0).val; omega)
  | ⟨1, _⟩ => exact Fin.ext (by show 0 + 1 * (x 1).val = (x 1).val; omega)
/-- and of the gathered activations. -/
theorem actRows_emb (q : Fin 16) (x : S16x512.Idx) : (actRows q).view.emb x = ix2 (chunkRow q (x 0)) (x 1) := by
  funext a; match a with
  | ⟨0, _⟩ => exact Fin.ext (by show 16 * q.val + 1 * (x 0).val = 16 * q.val + (x 0).val; omega)
  | ⟨1, _⟩ => exact Fin.ext (by show 0 + 1 * (x 1).val = (x 1).val; omega)
/-- The element of the slots under an element of one slot. -/
theorem slot_emb (q : Fin 16) (x : S16x512.Idx) : (slot q).view.emb x = ix3 q (x 0) (x 1) := by
  have h : (slot q).view.emb x = (Rect.unit (s := S16x16x512) ![q.val, 0, 0] S1x16x512.size (slot_inb q)).emb
      (Shape.reshapeEquiv squeezes_S1x16x512_S16x512.numel_eq x) := rfl
  have e : Shape.reshapeEquiv squeezes_S1x16x512_S16x512.numel_eq x = ix3 (⟨0, Nat.one_pos⟩ : Fin 1) (x 0) (x 1) := by
    conv_lhs => rw [eq_ix2 (n0 := 16) (n1 := 512) x]
    exact reshapeEquiv_ix2_1ab _ _ _
  rw [h, e]
  funext a; match a with
  | ⟨0, _⟩ => exact Fin.ext (by show q.val + 1 * 0 = q.val; omega)
  | ⟨1, _⟩ => exact Fin.ext (by show 0 + 1 * (x 0).val = (x 0).val; omega)
  | ⟨2, _⟩ => exact Fin.ext (by show 0 + 1 * (x 1).val = (x 1).val; omega)

theorem mem_partRows {q : Fin 16} {i : S256x512.Idx} : i ∈ (partRows q).view.set ↔ (i 0).val / 16 = q.val := by
  constructor
  · intro h; obtain ⟨x, -, rfl⟩ := Finset.mem_map.mp h
    rw [partRows_emb]; show (16 * q.val + (x 0).val) / 16 = q.val
    have : (x 0).val < 16 := (x 0).isLt; omega
  · intro h
    have e : i = (partRows q).view.emb (ix2 (⟨(i 0).val % 16, Nat.mod_lt _ (by decide)⟩ : Fin 16) (i 1)) := by
      rw [partRows_emb]; refine (eq_ix2 (n0 := 256) (n1 := 512) i).trans ?_
      exact congrArg (fun k => ix2 (n0 := 256) (n1 := 512) k (i 1)) (Fin.ext (by show (i 0).val = 16 * q.val + (i 0).val % 16; omega))
    rw [e]; exact View.emb_mem_set _ _
theorem actRows_set (q : Fin 16) : (actRows q).view.set = (partRows q).view.set := by
  ext i; constructor
  · intro h; obtain ⟨x, -, rfl⟩ := Finset.mem_map.mp h; rw [actRows_emb, ← partRows_emb]; exact View.emb_mem_set _ _
  · intro h; obtain ⟨x, -, rfl⟩ := Finset.mem_map.mp h; rw [partRows_emb, ← actRows_emb]; exact View.emb_mem_set _ _
theorem mem_slot {q : Fin 16} {i : S16x16x512.Idx} : i ∈ (slot q).view.set ↔ i 0 = q := by
  constructor
  · intro h; obtain ⟨x, -, rfl⟩ := Finset.mem_map.mp h
    rw [slot_emb]
  · intro h
    have e : i = (slot q).view.emb (ix2 (i 1) (i 2)) := by
      rw [slot_emb]; subst h; exact eq_ix3 (n0 := 16) (n1 := 16) (n2 := 512) i
    rw [e]; exact View.emb_mem_set _ _

/-- Two chunks' rows have no element in common, -/
theorem partRows_disjoint {q q' : Fin 16} (h : q ≠ q') : Disjoint (partRows q).view.set (partRows q').view.set :=
  Finset.disjoint_left.mpr fun i h1 h2 => h (Fin.ext ((mem_partRows.mp h1).symm.trans (mem_partRows.mp h2)))
/-- and neither have two slots. -/
theorem slot_disjoint {q q' : Fin 16} (h : q ≠ q') : Disjoint (slot q).view.set (slot q').view.set :=
  Finset.disjoint_left.mpr fun i h1 h2 => h ((mem_slot.mp h1).symm.trans (mem_slot.mp h2))

/-- A slot's elements, as elements of the buffer. -/
abbrev slotSet (q : Fin 16) : Finset S16x16x512.Idx := (slot q).view.set
/-- All slots together are the whole buffer. -/
theorem slot_cover : ((Finset.univ : Finset (Fin 16)).biUnion slotSet) = Finset.univ :=
  Finset.eq_univ_iff_forall.mpr fun i => Finset.mem_biUnion.mpr ⟨(i : S16x16x512.Idx) 0, Finset.mem_univ _, mem_slot.mpr rfl⟩

/-- A chunk's rows, as elements of the buffer. -/
abbrev rowSet (q : Fin 16) : Finset S256x512.Idx := (partRows q).view.set
/-- The rows of the chunks in `l`. -/
def rowsOf (l : List (Fin 16)) : Finset S256x512.Idx := l.toFinset.biUnion rowSet

theorem mem_rowsOf {l : List (Fin 16)} {i : S256x512.Idx} :
    i ∈ rowsOf l ↔ (⟨(i 0).val / 16, Nat.div_lt_of_lt_mul (i 0).isLt⟩ : Fin 16) ∈ l := by
  unfold rowsOf; rw [Finset.mem_biUnion]
  constructor
  · rintro ⟨q, hq, h⟩; rw [mem_partRows] at h
    rw [show (⟨(i 0).val / 16, Nat.div_lt_of_lt_mul (i 0).isLt⟩ : Fin 16) = q from Fin.ext h]; exact List.mem_toFinset.mp hq
  · intro h; exact ⟨_, List.mem_toFinset.mpr h, mem_partRows.mpr rfl⟩

theorem mem_all16 (q : Fin 16) : q ∈ all16 := by revert q; decide
theorem mem_low8 {q : Fin 16} : q ∈ low8 ↔ q.val < 8 := by revert q; decide
theorem mem_high8 {q : Fin 16} : q ∈ high8 ↔ ¬ q.val < 8 := by revert q; decide

/-- The rows of all chunks are all rows, -/
theorem rowsOf_all : rowsOf all16 = Finset.univ := Finset.eq_univ_iff_forall.mpr fun _ => mem_rowsOf.mpr (mem_all16 _)
/-- those of the first eight the first 128, -/
theorem mem_rowsOf_low {i : S256x512.Idx} : i ∈ rowsOf low8 ↔ (i 0).val < 128 := by
  rw [mem_rowsOf, mem_low8]; show (i 0).val / 16 < 8 ↔ _; omega
/-- and those of the last eight the last 128. -/
theorem mem_rowsOf_high {i : S256x512.Idx} : i ∈ rowsOf high8 ↔ ¬ (i 0).val < 128 := by
  rw [mem_rowsOf, mem_high8]; show ¬ (i 0).val / 16 < 8 ↔ _; omega

/-! ## What the copies write -/

variable {A}

/-- Device `c`'s rows of chunk `q`, written into its slot on device `q`, are what that slot is to hold. -/
theorem write_slot (P : Dev nD → Vec F S256x512 .bf16) (c q : Fin 16) (fd : (cc0_scratch1 : Ref sig .tc).ty.Contents (Elt F))
    (i : S16x16x512.Idx) (hi : i ∈ (slot c).view.set) :
    (slot c).view.write (Elt F) fd ((partRows q).view.read (Elt F) (P c)) Finset.univ i = slotsOf P q i := by
  obtain ⟨x, -, rfl⟩ := Finset.mem_map.mp hi
  refine (View.write_emb_of_mem (v := (slot c).view) fd _ (Finset.mem_univ x)).trans ?_
  show P c ((partRows q).view.emb x) = _
  rw [partRows_emb, slot_emb]; rfl

/-- Device `c`'s reduced chunk, written over its rows of the gathered activations, is what they are to hold. -/
theorem write_actRows (R : Dev nD → Vec F S16x512 .bf16) (c : Fin 16) (fd : (cc0_scratch2 : Ref sig .tc).ty.Contents (Elt F))
    (i : S256x512.Idx) (hi : i ∈ (actRows c).view.set) :
    (actRows c).view.write (Elt F) fd (redM.view.read (Elt F) (R c)) Finset.univ i = gather R i := by
  obtain ⟨x, -, rfl⟩ := Finset.mem_map.mp hi
  refine (View.write_emb_of_mem (v := (actRows c).view) fd _ (Finset.mem_univ x)).trans ?_
  show R c x = _
  rw [actRows_emb]
  have hx : (x 0).val < 16 := (x 0).isLt
  have e1 : (⟨(16 * c.val + (x 0).val) / 16, by omega⟩ : Fin 16) = c := Fin.ext (by show (16 * c.val + (x 0).val) / 16 = c.val; omega)
  have e2 : (⟨(16 * c.val + (x 0).val) % 16, Nat.mod_lt _ (by decide)⟩ : Fin 16) = x 0 := Fin.ext (by show (16 * c.val + (x 0).val) % 16 = (x 0).val; omega)
  show R c x = R (⟨(16 * c.val + (x 0).val) / 16, _⟩ : Fin 16) (ix2 (⟨(16 * c.val + (x 0).val) % 16, _⟩ : Fin 16) (x 1))
  rw [e1, e2]; exact congrArg (R c) (eq_ix2 (n0 := 16) (n1 := 512) x)

end Cert.Proof

end
-- ==== Proof.Protocol.lean ====
/-
  The protocol of the exchange. Every device has sixty-five cells of its own: one that counts the devices
  that have entered, and four for each device `q` it exchanges with — the read-out of the rows it sends
  `q`, the landing of `q`'s rows, the read-out of the chunk it sends `q`, and the landing of `q`'s chunk.
  Each of the four is used once a layer: round `r` of the cell is layer `r`. This module says what the
  units of each round hand to the cell's owner (`sched`), what each device owes the others, in the order in
  which it pays (`Debt`, `owing`), and the levels under which every wait sits below what is then owed.
-/
module

public import proofs.«01_k».proof.Proof.Contents
public import Idealize.ShloMosaic.Lib.ShareLeaves

@[expose] public section

noncomputable section

namespace Cert.Proof

open Cert.KernelIdeal Cert.KernelIdeal.Gen

open Idealize.ShloMosaic
open Idealize.ShloMosaic.TcCoe
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, of one duty each, and the exchange's, whose duties are named by devices. -/
abbrev UU : Type := URounds (GSem nD τ sig) Unit × URounds (GSem nD τ sig) (Fin 16)

local notation "𝕄" => MT nD τ sig ℕ (Elt F) ℕ UU ℕ

/-- The pipeline's rounds inside the machine's algebra, -/
def EP : Emb (URounds (GSem nD τ sig) Unit) (MT nD τ sig ℕ (Elt F) ℕ UU ℕ) :=
  (Emb.inl : Emb (URounds (GSem nD τ sig) Unit) UU).trans (uEmb (nD := nD) (sig := sig) (Ix := ℕ) (Val := Elt F) (Name := ℕ) (U := UU) (Lvl := ℕ)).toEmb
/-- and the exchange's. -/
def ER : Emb (URounds (GSem nD τ sig) (Fin 16)) (MT nD τ sig ℕ (Elt F) ℕ UU ℕ) :=
  (Emb.inr : Emb (URounds (GSem nD τ sig) (Fin 16)) UU).trans (uEmb (nD := nD) (sig := sig) (Ix := ℕ) (Val := Elt F) (Name := ℕ) (U := UU) (Lvl := ℕ)).toEmb

instance EP_landsIn : (EP : Emb (URounds (GSem nD τ sig) Unit) 𝕄).LandsIn (upEmb : UEmb _ 𝕄) := by unfold EP; infer_instance
instance ER_landsIn : (ER : Emb (URounds (GSem nD τ sig) (Fin 16)) 𝕄).LandsIn (upEmb : UEmb _ 𝕄) := by unfold ER; infer_instance

/-! ## The cells -/

/-- A device's own cells: `none` counts the devices that have entered; `(0, q)` is credited when the rows sent to `q`
    have been read, `(1, q)` when `q`'s rows have landed, `(2, q)` when the chunk sent to `q` has been read, `(3, q)` when
    `q`'s chunk has landed. -/
abbrev Own : Type := Option (Fin 4 × Fin 16)

/-- The four arrays of semaphores. -/
abbrev semsOf : Fin 4 → DmaSems sig S16 := fun | 0 => cc0_scratch4 | 1 => cc0_scratch5 | 2 => cc0_scratch6 | 3 => cc0_scratch7

/-- Which semaphore is which cell. -/
abbrev osem : Own → SemLoc sig
  | none => .reg cc0_scratch8.sem
  | some (k, q) => .dma (semAt (semsOf k) q)

/-- Which cell a semaphore is, if it is one of them. -/
def ownOf : SemLoc sig → Option Own
  | .reg _ => some none
  | .dma s => if 8 ≤ s.val then some (some (⟨(s.val - 8) / 16 % 4, Nat.mod_lt _ (by decide)⟩, ⟨(s.val - 8) % 16, Nat.mod_lt _ (by decide)⟩)) else none

theorem ownOf_osem (k : Own) : ownOf (osem k) = some k := by revert k; decide

/-- Cell `k` of device `c`. -/
abbrev cell (c : Dev nD) (k : Own) : GSem nD τ sig := ((c : Thread nD τ), osem k)

theorem osem_inj {k k' : Own} (h : osem k = osem k') : k = k' := by
  have := congrArg ownOf h; rw [ownOf_osem, ownOf_osem] at this; exact Option.some.inj this
theorem cell_inj {c c' : Dev nD} {k k' : Own} (h : cell c k = cell c' k') : c = c' ∧ k = k' :=
  ⟨Fin.ext (congrArg (fun g : GSem nD τ sig => g.1.1.val) h), osem_inj (congrArg Prod.snd h)⟩

/-- The kernel computes the semaphore of its own number as that one of the array. -/
theorem mySem_eq (k : Fin 4) (c : Dev nD) : mySem (semsOf k) c = semAt (semsOf k) c := by
  have h : ∀ (o : Fin 1 → Nat) (ho : ∀ a, o a + S1.size a ≤ S16.size a), o = ![c.val] →
      (((semsOf k).slice (Rect.unit (s := S16) o S1.size ho)).squeeze S_ squeezes_S1_S_).sem = semAt (semsOf k) c := by
    rintro o ho rfl; rfl
  exact h _ (k0_off1_inb c) (k0_off1_eq c)

/-- What a copy of one chunk credits. -/
@[irreducible] def N : ℕ := (redM : Memref sig .tc .vmem S16x512 .bf16).view.dmaCredit
theorem N_red : (redM : Memref sig .tc .vmem S16x512 .bf16).view.dmaCredit = N := by unfold N; rfl
theorem N_pos : 0 < N := by rw [← N_red]; exact View.dmaCredit_pos _ (by decide)
theorem N_partRows (q : Fin 16) : (partRows q).view.dmaCredit = N := by unfold N; rfl
theorem N_actRows (q : Fin 16) : (actRows q).view.dmaCredit = N := by unfold N; rfl
theorem N_slot (q : Fin 16) : (slot q).view.dmaCredit = N := by unfold N; rfl

/-! ## The pieces held -/

section Pieces
variable (c : Dev nD) (q : Fin 16)

/-- Device `c`'s rows of chunk `q` of its partial product, at contents `f`; -/
def rowsAt (f : Vec F S256x512 .bf16) : sProp 𝕄 := (partRows q).view.loc (c : Thread nD τ) ↦[(partRows q).view.set]{fullShare} f
/-- its slot `q`; -/
def slotAt (f : Vec F S16x16x512 .bf16) : sProp 𝕄 := (slot q).view.loc (c : Thread nD τ) ↦[(slot q).view.set]{fullShare} f
/-- its rows of chunk `q` of the gathered activations; -/
def actAt (f : Vec F S256x512 .bf16) : sProp 𝕄 := (actRows q).view.loc (c : Thread nD τ) ↦[(actRows q).view.set]{fullShare} f
/-- the `q`-th of sixteen shares of its reduced chunk. -/
def redAt (f : Vec F S16x512 .bf16) : sProp 𝕄 := redM.view.loc (c : Thread nD τ) ↦[redM.view.set]{leaf 4 fullShare q} f
/-- The slot and the rows at whatever they hold. -/
def slotAny : sProp 𝕄 := iprop(∃ f, slotAt c q f)
@[inherit_doc slotAny] def actAny : sProp 𝕄 := iprop(∃ f, actAt c q f)

/-- Cell `(k, q)` of device `c` has reached round `r`. -/
abbrev at_ (k : Fin 4) (r : ℕ) : sProp 𝕄 := reached ER (cell c (some (k, q))) r

/-- Device `q`'s slot for `c`, free for `c`'s rows of layer `r`. -/
def slotFree (r : ℕ) : sProp 𝕄 := iprop(slotAny q c ∗ at_ q c 1 r)
/-- Device `q`'s rows for the chunk of `c`, free for it in layer `r`. -/
def actFree (r : ℕ) : sProp 𝕄 := iprop(actAny q c ∗ at_ q c 3 r)

end Pieces

omit [FloatOps F] in
instance rowsAt_storable (c : Dev nD) (q : Fin 16) (f : Vec F S256x512 .bf16) : BI.Storable (upEmb : UEmb _ 𝕄) (rowsAt c q f) := by unfold rowsAt; infer_instance
omit [FloatOps F] in
instance slotAt_storable (c : Dev nD) (q : Fin 16) (f : Vec F S16x16x512 .bf16) : BI.Storable (upEmb : UEmb _ 𝕄) (slotAt c q f) := by unfold slotAt; infer_instance
omit [FloatOps F] in
instance actAt_storable (c : Dev nD) (q : Fin 16) (f : Vec F S256x512 .bf16) : BI.Storable (upEmb : UEmb _ 𝕄) (actAt c q f) := by unfold actAt; infer_instance
omit [FloatOps F] in
instance redAt_storable (c : Dev nD) (q : Fin 16) (f : Vec F S16x512 .bf16) : BI.Storable (upEmb : UEmb _ 𝕄) (redAt c q f) := by unfold redAt; infer_instance
omit [FloatOps F] in
instance slotAny_storable (c : Dev nD) (q : Fin 16) : BI.Storable (upEmb : UEmb _ 𝕄) (slotAny (F := F) c q) := by unfold slotAny; infer_instance
omit [FloatOps F] in
instance actAny_storable (c : Dev nD) (q : Fin 16) : BI.Storable (upEmb : UEmb _ 𝕄) (actAny (F := F) c q) := by unfold actAny; infer_instance
omit [FloatOps F] in
instance slotFree_storable (c : Dev nD) (q : Fin 16) (r : ℕ) : BI.Storable (upEmb : UEmb _ 𝕄) (slotFree (F := F) c q r) := by unfold slotFree; infer_instance
omit [FloatOps F] in
instance actFree_storable (c : Dev nD) (q : Fin 16) (r : ℕ) : BI.Storable (upEmb : UEmb _ 𝕄) (actFree (F := F) c q r) := by unfold actFree; infer_instance

/-! ## The schedule -/

variable (A : Inputs F)

/-- What comes with device `q`'s chunk of layer `r` beside it: its slot for `c`, free for the next layer, if there is one. -/
def nextSlot (c : Dev nD) (q : Fin 16) (r : ℕ) : sProp 𝕄 := if r < 2 then slotFree c q (r + 1) else iprop(emp)

omit [FloatOps F] in
instance nextSlot_storable (c : Dev nD) (q : Fin 16) (r : ℕ) : BI.Storable (upEmb : UEmb _ 𝕄) (nextSlot (F := F) c q r) := by
  unfold nextSlot; split <;> infer_instance

/-- What round `r` of the cell `(k, q)` hands device `c`: its rows back; `q`'s rows in its slot, and `q`'s activation rows
    to fill; its share of the reduced chunk back; `q`'s chunk, and `q`'s slot to fill. -/
def pay (c : Dev nD) (r : ℕ) : Fin 4 → Fin 16 → sProp 𝕄
  | 0, q => rowsAt c q (part A r c)
  | 1, q => iprop(slotAt c q (slots A r c) ∗ actFree c q r)
  | 2, q => redAt c q (red A r c)
  | 3, q => iprop(actAt c q (act A r) ∗ nextSlot c q r)

instance pay_storable (c : Dev nD) (r : ℕ) (k : Fin 4) (q : Fin 16) : BI.Storable (upEmb : UEmb _ 𝕄) (pay A c r k q) := by
  fin_cases k <;> · unfold pay; infer_instance

/-- The schedule: an entry cell has one round, of one unit from every device, each handing over the slot that device
    keeps for the owner; every other cell has three rounds, of one copy each. -/
def sched : Rounds.Schedule (GSem nD τ sig) (Fin 16) 𝕄 where
  duties g r := if g.1.2 = .tc then
      match ownOf g.2 with
      | some none => if r = 0 then Finset.univ else ∅
      | some (some _) => if r < 3 then {0} else ∅
      | none => ∅
    else ∅
  amount g _ _ := match ownOf g.2 with
    | some none => 1
    | _ => N
  payload g r d := match ownOf g.2 with
    | some none => slotAny d g.1.1
    | some (some (k, q)) => pay A g.1.1 r k q
    | none => iprop(emp)
  amount_pos g _ _ _ := by split; exacts [Nat.one_pos, N_pos]

instance sched_storable (g : GSem nD τ sig) (r : ℕ) (d : Fin 16) : BI.Storable (upEmb : UEmb _ 𝕄) ((sched A).payload g r d) := by
  dsimp only [sched]; split <;> infer_instance

section Sched
variable (c : Dev nD) (k : Fin 4) (q : Fin 16)

theorem duties_entry : (sched A).duties (cell c none) 0 = Finset.univ := by
  dsimp only [sched]; rw [ownOf_osem, if_pos rfl]; exact if_pos rfl
theorem duties_copy {r : ℕ} (hr : r < 3) : (sched A).duties (cell c (some (k, q))) r = {0} := by
  dsimp only [sched]; rw [ownOf_osem, if_pos rfl]; exact if_pos hr
theorem duties_entry_later : ∀ r, 1 ≤ r → (sched A).duties (cell c none) r = ∅ := fun r hr => by
  dsimp only [sched]; rw [ownOf_osem, if_pos rfl]; exact if_neg (by omega)
theorem duties_copy_later : ∀ r, 3 ≤ r → (sched A).duties (cell c (some (k, q))) r = ∅ := fun r hr => by
  dsimp only [sched]; rw [ownOf_osem, if_pos rfl]; exact if_neg (by omega)
theorem amount_entry (r : ℕ) (d : Fin 16) : (sched A).amount (cell c none) r d = 1 := by
  dsimp only [sched]; rw [ownOf_osem]
theorem amount_copy (r : ℕ) (d : Fin 16) : (sched A).amount (cell c (some (k, q))) r d = N := by
  dsimp only [sched]; rw [ownOf_osem]
theorem payload_entry (r : ℕ) (d : Fin 16) : (sched A).payload (cell c none) r d = slotAny d c := by
  dsimp only [sched]; rw [ownOf_osem]
theorem payload_copy (r : ℕ) (d : Fin 16) : (sched A).payload (cell c (some (k, q))) r d = pay A c r k q := by
  dsimp only [sched]; rw [ownOf_osem]
theorem expect_entry : (sched A).expect (cell c none) 0 = 16 := by
  unfold Schedule.expect Schedule.amountOf
  rw [duties_entry, Finset.sum_congr rfl fun d _ => amount_entry A c 0 d]; rfl
theorem expect_copy {r : ℕ} (hr : r < 3) : (sched A).expect (cell c (some (k, q))) r = N := by
  unfold Schedule.expect Schedule.amountOf
  rw [duties_copy A c k q hr, Finset.sum_singleton, amount_copy]
theorem rest_entry : bigSep ((sched A).duties (cell c none) 0 \ ∅) (fun d => (sched A).payload (cell c none) 0 d) = bigSep Finset.univ fun p => slotAny (F := F) p c := by
  rw [Finset.sdiff_empty, duties_entry]; exact bigSep_congr fun d _ => payload_entry A c 0 d
theorem rest_copy {r : ℕ} (hr : r < 3) :
    bigSep ((sched A).duties (cell c (some (k, q))) r \ ∅) (fun d => (sched A).payload (cell c (some (k, q))) r d) = pay A c r k q := by
  rw [Finset.sdiff_empty, duties_copy A c k q hr, bigSep_singleton, payload_copy]

end Sched

/-! ## What is owed -/

/-- One thing a device owes another: to say that it has entered, its rows of layer `r`, its chunk of layer `r`. -/
inductive Debt where
  /-- the unit that says this device has entered, to device `q`, -/
  | entry (q : Fin 16)
  /-- the rows of layer `r`, to device `q`, -/
  | rows (r : ℕ) (q : Fin 16)
  /-- the reduced chunk of layer `r`, to device `q`. -/
  | chunk (r : ℕ) (q : Fin 16)
deriving DecidableEq

/-- The cell a debt of device `c` is owed to, -/
def Debt.cell (c : Dev nD) : Debt → GSem nD τ sig
  | .entry q => Proof.cell q none
  | .rows _ q => Proof.cell q (some (1, c))
  | .chunk _ q => Proof.cell q (some (3, c))
/-- its round, -/
def Debt.round : Debt → ℕ
  | .entry _ => 0
  | .rows r _ => r
  | .chunk r _ => r
/-- its units, -/
def Debt.units : Debt → ℕ
  | .entry _ => 1
  | _ => N
/-- and its level. -/
def Debt.level : Debt → ℕ
  | .entry _ => 1
  | .rows r _ => 2 + 2 * r
  | .chunk r _ => 3 + 2 * r

/-- A debt, as the machine counts it; -/
abbrev Debt.tally (c : Dev nD) (d : Debt) : CellTallies nD τ sig ℕ := tallyAt (d.cell c) d.round d.units
/-- and a list of them. -/
def owing (c : Dev nD) : List Debt → CellTallies nD τ sig ℕ
  | [] => 0
  | d :: l => owing c l + d.tally c

/-- What device `c` owes at the start, in the order in which it pays: by layer the rows and the chunk to everyone, the rows of a
    later layer in two halves. -/
abbrev owed9 : List Debt := all16.map (.chunk 2)
@[inherit_doc owed9] abbrev owed8 : List Debt := high8.map (.rows 2) ++ owed9
@[inherit_doc owed9] abbrev owed7 : List Debt := low8.map (.rows 2) ++ owed8
@[inherit_doc owed9] abbrev owed6 : List Debt := all16.map (.chunk 1) ++ owed7
@[inherit_doc owed9] abbrev owed5 : List Debt := high8.map (.rows 1) ++ owed6
@[inherit_doc owed9] abbrev owed4 : List Debt := low8.map (.rows 1) ++ owed5
@[inherit_doc owed9] abbrev owed3 : List Debt := all16.map (.chunk 0) ++ owed4
@[inherit_doc owed9] abbrev owed2 : List Debt := all16.map (.rows 0) ++ owed3
@[inherit_doc owed9] abbrev owed1 : List Debt := all16.map .entry ++ owed2

/-- Three indices are levelled at each cell of a TensorCore; -/
def L (g : GSem nD τ sig) : Finset ℕ := if g.1.2 = .tc then Finset.range 3 else ∅
/-- an entry cell at 1, a landing cell at its layer, the rows before the chunk, everything else at 0. -/
def lv (g : GSem nD τ sig) (r : ℕ) : ℕ := match ownOf g.2 with
  | some none => 1
  | some (some (k, _)) => if k = 1 then 2 + 2 * r else if k = 3 then 3 + 2 * r else 0
  | none => 0

theorem L_of_ne (g : GSem nD τ sig) (h : g.1.2 ≠ .tc) : L g = ∅ := if_neg h
theorem L_tc (c : Dev nD) (sm : SemLoc sig) : L ((c : Thread nD τ), sm) = Finset.range 3 := if_pos rfl

theorem lv_debt (c : Dev nD) (d : Debt) : lv (d.cell c) d.round = d.level := by
  cases d <;> · unfold lv Debt.cell; dsimp only; rw [ownOf_osem]; rfl

theorem debt_tc (c : Dev nD) (d : Debt) : (d.cell c).1.2 = .tc := by cases d <;> rfl

/-- What is owed of a list is owed by one of it. -/
theorem owing_pos {c : Dev nD} {l : List Debt} {g : GSem nD τ sig} {r : ℕ} (h : 0 < owing c l g r) : ∃ d ∈ l, g = d.cell c ∧ r = d.round := by
  induction l with
  | nil => exact absurd h (Nat.lt_irrefl 0)
  | cons d l ih =>
    unfold owing at h
    rw [Pi.add_apply, Finsupp.add_apply, tallyAt_apply] at h
    by_cases hd : g = d.cell c ∧ r = d.round
    · exact ⟨d, List.mem_cons_self, hd⟩
    · rw [if_neg hd, Nat.add_zero] at h
      obtain ⟨d', h1, h2⟩ := ih h
      exact ⟨d', List.mem_cons_of_mem _ h1, h2⟩

omit [FloatOps F] in
/-- A device may wait on a cell whose level is below everything it owes. -/
theorem mayWait (c : Dev nD) (sm : SemLoc sig) (r n : ℕ) (l : List Debt) (hr : r < 3) (hn : lv ((c : Thread nD τ), sm) r ≤ n)
    (hl : ∀ d ∈ l, d.round < 3 ∧ n < d.level) : (levAts L lv : sProp 𝕄) ⊢ MayWait (c : Thread nD τ) sm r (owing c l) :=
  MayOwe.of_cut (L := L) (lev := lv) n (fun p hp => by rw [Finset.mem_singleton.mp hp, L_tc]; exact Finset.mem_range.mpr hr)
    (fun g u hg => by
      obtain ⟨d, hd, rfl, rfl⟩ := owing_pos hg
      unfold L; rw [if_pos (debt_tc c d)]; exact Finset.mem_range.mpr (hl d hd).1)
    (fun p hp => by rw [Finset.mem_singleton.mp hp]; exact hn)
    (fun g u hg => by
      obtain ⟨d, hd, rfl, rfl⟩ := owing_pos hg
      rw [lv_debt]; exact (hl d hd).2)

/-! ## What every device may consult -/

/-- The invariants of all cells, under the names `K`, that every cell has reached round 0, and the levels. -/
def records (K : Dev nD × Own → ℕ) : sProp 𝕄 :=
  iprop((bigSep Finset.univ fun ck : Dev nD × Own => cellInv ER (sched A) (K ck) (cell ck.1 ck.2))
    ∗ (bigSep Finset.univ fun ck : Dev nD × Own => reached ER (cell ck.1 ck.2) 0) ∗ (levAts L lv : sProp 𝕄))

instance records_persistent (K : Dev nD × Own → ℕ) : BI.Persistent (records A K) := by unfold records; infer_instance

theorem records_inv (K : Dev nD × Own → ℕ) (c : Dev nD) (k : Own) : records A K ⊢ cellInv ER (sched A) (K (c, k)) (cell c k) :=
  sep_elim_left.trans (bigSep_elim (Φ := fun ck : Dev nD × Own => (cellInv ER (sched A) (K ck) (cell ck.1 ck.2) : sProp 𝕄)) (Finset.mem_univ (c, k)))
theorem records_reached (K : Dev nD × Own → ℕ) (c : Dev nD) (k : Own) : records A K ⊢ reached ER (cell c k) 0 :=
  sep_elim_right.trans (sep_elim_left.trans
    (bigSep_elim (Φ := fun ck : Dev nD × Own => (reached ER (cell ck.1 ck.2) 0 : sProp 𝕄)) (Finset.mem_univ (c, k))))
theorem records_lev (K : Dev nD × Own → ℕ) : records A K ⊢ (levAts L lv : sProp 𝕄) := by
  unfold records; iintro ⟨-, -, H⟩; iexact H

/-- A device may wait on a cell whose level is below everything it owes, by the levels on record. -/
theorem records_mayWait (K : Dev nD × Own → ℕ) (c : Dev nD) (sm : SemLoc sig) (r n : ℕ) (l : List Debt) (hr : r < 3)
    (hn : lv ((c : Thread nD τ), sm) r ≤ n) (hl : ∀ d ∈ l, d.round < 3 ∧ n < d.level) :
    records A K ⊢ (MayWait (c : Thread nD τ) sm r (owing c l) : sProp 𝕄) :=
  (@records_lev F _ A K).trans (mayWait c sm r n l hr hn hl)

end Cert.Proof

end
-- ==== Proof.Steps.lean ====
/-
  The repeated operations of the body, each with what it takes and what it gives, for a variable peer `q`
  and a variable layer `r`; and the run of one of them for every device of a list.
-/
module

public import proofs.«01_k».proof.Proof.Protocol
public import Idealize.ShloMosaic.Lib.Pipeline.BigSepL

@[expose] public section

noncomputable section

namespace Cert.Proof

open Cert.KernelIdeal Cert.KernelIdeal.Gen

open Idealize.ShloMosaic
open Idealize.ShloMosaic.TcCoe
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No kernel has variants here. -/
abbrev 𝒱₀ : Variants := Variants.none

/-- The weakest precondition of a piece of device `c`'s body. -/
abbrev wpC {α : Type} (c : Dev nD) (p : BodyProg F α) (Q : α → sProp 𝕄) : sProp 𝕄 :=
  wp frame (wpE (defs₀ (F := F)) 𝒱₀ (c : Thread nD τ) none) Set.univ p Q

/-- Device `c` owes what is on the list. -/
def debt (c : Dev nD) (l : List Debt) : sProp 𝕄 := iprop(∃ W, owes (c : Thread nD τ) (owing c l) W)

/-- Device `c` is before round `r` of its cell `(k, q)`. -/
def pos (k : Fin 4) (r : ℕ) (c : Dev nD) (q : Fin 16) : sProp 𝕄 :=
  iprop(atPos ER (cell c (some (k, q))) r ∅ 0 ∗ at_ c q k r)

/-- Its duties of layer `r` towards `q`, for the rows: its own read-out and the landing at `q`; -/
def dutyRows (r : ℕ) (c : Dev nD) (q : Fin 16) : sProp 𝕄 :=
  iprop(dutyTok ER (cell c (some (0, q))) r 0 ∗ dutyTok ER (cell q (some (1, c))) r 0)
/-- for the chunk. -/
def dutyChunk (r : ℕ) (c : Dev nD) (q : Fin 16) : sProp 𝕄 :=
  iprop(dutyTok ER (cell c (some (2, q))) r 0 ∗ dutyTok ER (cell q (some (3, c))) r 0)

/-- The credit of a copy under way, at its cell. -/
abbrev credAt (k : Fin 4) (r : ℕ) (c : Dev nD) (q : Fin 16) : sProp 𝕄 := cred (tallyAt (cell c (some (k, q))) r N)

variable (A : Inputs F) (K : Dev nD × Own → ℕ)

theorem lv_entry (c : Dev nD) (i : ℕ) : lv (cell c none) i = 1 := by unfold lv; dsimp only; rw [ownOf_osem]
theorem lv_copy (c : Dev nD) (k : Fin 4) (q : Fin 16) (i : ℕ) : lv (cell c (some (k, q))) i = if k = 1 then 2 + 2 * i else if k = 3 then 3 + 2 * i else 0 := by
  unfold lv; dsimp only; rw [ownOf_osem]

/-! ## The units of entry -/

theorem wp_sayReady (c : Dev nD) (q : Fin 16) (l : List Debt) (Q : PUnit → sProp 𝕄) :
    iprop(records A K ∗ (dutyTok ER (cell q none) 0 c ∗ slotAny c q) ∗ debt c (.entry q :: l))
      ⊢ iprop((debt c l -∗ Q ⟨⟩) -∗ wpC c (sayReady q) Q) := by
  unfold sayReady debt
  simp only [semSignalWord, Prog.lift]
  iintro ⟨#HR, ⟨Ht, Hs⟩, ⟨%W, HO⟩⟩ Hk
  ihave #HI := (records_inv A K q none) $$ HR
  ihave #Hr := (records_reached A K q none) $$ HR
  iapply (Rounds.wp_signal 𝒱₀ ER (sched A) (c : Thread nD τ) none (dst := (q : Thread nD τ)) (κ := K (q, none)) (d := c) (r := 0)
      (by rw [duties_entry]; exact Finset.mem_univ _) ((amount_entry A q 0 c).trans (by decide)) 0 (owing c l) rfl) $$ [HO Ht Hs]
  · isplitr; · iexact HI
    isplitl [HO]; · iexact HO
    isplitl [Ht]; · iexact Ht
    isplitl [Hs]
    · rw [payload_entry]; iexact Hs
    · iexact Hr
  iintro HO
  rw [wp_ret]; imodintro
  iapply Hk; iexists W; iexact HO

theorem wp_allReady (c : Dev nD) (l : List Debt) (hl : ∀ d ∈ l, d.round < 3 ∧ 1 < d.level) (Q : PUnit → sProp 𝕄) :
    iprop(records A K ∗ cred (tallyAt (cell c none) 0 16) ∗ atPos ER (cell c none) 0 ∅ 0 ∗ debt c l)
      ⊢ iprop((atPos ER (cell c none) 1 ∅ 0 ∗ (bigSep Finset.univ fun p => slotAny (F := F) p c) ∗ debt c l -∗ Q ⟨⟩)
          -∗ wpC c (semWaitWord cc0_scratch8.sem 16#32) Q) := by
  unfold debt
  simp only [semWaitWord, Prog.lift]
  iintro ⟨#HR, Hc, Ha, ⟨%W, HO⟩⟩ Hk
  ihave #HI := (records_inv A K c none) $$ HR
  iapply (Rounds.wp_wait_rest_token 𝒱₀ ER (sched A) (c : Thread nD τ) none (κ := K (c, none))
      (wpE_semWait_eq 𝒱₀ (c : Thread nD τ) none Set.univ) (Set.mem_univ _) 0 (O := owing c l) (W := W) (R := 0) (m := 0) (T := ∅)
      (by rw [expect_entry]; decide)) $$ [Hc HO Ha]
  · isplitr; · iexact HI
    isplitl [Hc]; · iexact Hc
    isplitl [HO]; · iexact HO
    isplitr; · iapply (@records_mayWait F _ A K c _ 0 1 l (by decide) (le_of_eq (lv_entry c 0)) hl); iexact HR
    iexact Ha
  iintro ⟨HO, Ha, -, Hpay⟩
  ihave Hp := (Entails.of_eq (rest_entry A c)) $$ Hpay
  rw [wp_ret]; imodintro
  iapply Hk
  isplitl [Ha]; · iexact Ha
  isplitl [Hp]; · iexact Hp
  iexists _; iexact HO

/-! ## The waits for a copy -/

/-- A wait of device `c` for round `r` of its cell `(k, q)`, the cell's credit held. -/
theorem wp_copyWait (c : Dev nD) (k : Fin 4) (q : Fin 16) (r i n : ℕ) (hr : r < 3) (hi : i < 3) (l : List Debt)
    (hn : lv (cell c (some (k, q))) i ≤ n) (hl : ∀ d ∈ l, d.round < 3 ∧ n < d.level)
    {spS spD : Space} {sS sD : Shape} {tS tD : EltTy} (src : Memref sig .tc spS sS tS) (dst : Memref sig .tc spD sD tD) (hN : dst.view.dmaCredit = N)
    (h1 : src.view.WordExact) (h2 : dst.view.WordExact) (Q : PUnit → sProp 𝕄) :
    iprop(records A K ∗ credAt k i c q ∗ pos k r c q ∗ debt c l)
      ⊢ iprop((pos k (r + 1) c q ∗ pay A c r k q ∗ debt c l -∗ Q ⟨⟩)
          -∗ wpC c (Prog.lift (.waitDma2 (semAt (semsOf k) q) src dst h1 h2)) Q) := by
  unfold debt pos
  simp only [Prog.lift]
  iintro ⟨#HR, Hc, ⟨Ha, -⟩, ⟨%W, HO⟩⟩ Hk
  ihave #HI := (records_inv A K c (some (k, q))) $$ HR
  iapply (Rounds.wp_wait_rest_token 𝒱₀ ER (sched A) (c : Thread nD τ) none (κ := K (c, some (k, q)))
      (wpE_waitDma2_eq 𝒱₀ (c : Thread nD τ) none Set.univ) (Set.mem_univ _) i (O := owing c l) (W := W) (R := r) (m := 0) (T := ∅)
      (by rw [Nat.zero_add, expect_copy A c k q hr]; exact hN)) $$ [Hc HO Ha]
  · isplitr; · iexact HI
    isplitl [Hc]; · rw [hN]; iexact Hc
    isplitl [HO]; · iexact HO
    isplitr; · iapply (@records_mayWait F _ A K c _ i n l hi hn hl); iexact HR
    iexact Ha
  iintro ⟨HO, Ha, #Hr, Hpay⟩
  ihave Hp := (Entails.of_eq (rest_copy A c k q hr)) $$ Hpay
  rw [wp_ret]; imodintro
  iapply Hk
  isplitl [Ha]
  · isplitl [Ha]; · iexact Ha
    iexact Hr
  isplitl [Hp]; · iexact Hp
  iexists _; iexact HO

/-- The rows of `q` have landed in its slot. -/
theorem wp_takePart (c : Dev nD) (q : Fin 16) (r : ℕ) (hr : r < 3) (l : List Debt) (hl : ∀ d ∈ l, d.round < 3 ∧ 2 + 2 * r < d.level) (Q : PUnit → sProp 𝕄) :
    iprop(records A K ∗ (credAt 1 r c q ∗ pos 1 r c q) ∗ debt c l)
      ⊢ iprop(((pos 1 (r + 1) c q ∗ slotAt c q (slots A r c) ∗ actFree c q r) ∗ debt c l -∗ Q ⟨⟩) -∗ wpC c (takePart q) Q) := by
  unfold takePart
  iintro ⟨#HR, ⟨Hc, Ha⟩, HO⟩ Hk
  iapply (wp_copyWait A K c 1 q r r (2 + 2 * r) hr hr l (by rw [lv_copy]; exact Nat.le_refl _) hl (partRows 0) (slot q) (N_slot q)) $$ [Hc Ha HO]
  · isplitr; · iexact HR
    isplitl [Hc]; · iexact Hc
    isplitl [Ha]; · iexact Ha
    iexact HO
  unfold pay
  iintro ⟨Ha, Hp, HO⟩
  iapply Hk
  isplitl [Ha Hp]
  · isplitl [Ha]; · iexact Ha
    iexact Hp
  iexact HO

/-- The rows sent to `q` have been read. -/
theorem wp_donePart (c : Dev nD) (q : Fin 16) (r : ℕ) (hr : r < 3) (l : List Debt) (hl : ∀ d ∈ l, d.round < 3 ∧ 0 < d.level) (Q : PUnit → sProp 𝕄) :
    iprop(records A K ∗ (credAt 0 0 c q ∗ pos 0 r c q) ∗ debt c l)
      ⊢ iprop(((pos 0 (r + 1) c q ∗ rowsAt c q (part A r c)) ∗ debt c l -∗ Q ⟨⟩) -∗ wpC c (donePart c q) Q) := by
  unfold donePart
  iintro ⟨#HR, ⟨Hc, Ha⟩, HO⟩ Hk
  iapply (wp_copyWait A K c 0 q r 0 0 hr (by decide) l (by rw [lv_copy]; exact Nat.le_refl _) hl (mySlot c) (partRows q) (N_partRows q)) $$ [Hc Ha HO]
  · isplitr; · iexact HR
    isplitl [Hc]; · iexact Hc
    isplitl [Ha]; · iexact Ha
    iexact HO
  unfold pay
  iintro ⟨Ha, Hp, HO⟩
  iapply Hk
  isplitl [Ha Hp]
  · isplitl [Ha]; · iexact Ha
    iexact Hp
  iexact HO

/-- The chunk of `q` has landed in its rows of the gathered activations. -/
theorem wp_takeRed (c : Dev nD) (q : Fin 16) (r : ℕ) (hr : r < 3) (l : List Debt) (hl : ∀ d ∈ l, d.round < 3 ∧ 3 + 2 * r < d.level) (Q : PUnit → sProp 𝕄) :
    iprop(records A K ∗ (credAt 3 r c q ∗ pos 3 r c q) ∗ debt c l)
      ⊢ iprop(((pos 3 (r + 1) c q ∗ actAt c q (act A r) ∗ nextSlot c q r) ∗ debt c l -∗ Q ⟨⟩) -∗ wpC c (takeRed q) Q) := by
  unfold takeRed
  iintro ⟨#HR, ⟨Hc, Ha⟩, HO⟩ Hk
  iapply (wp_copyWait A K c 3 q r r (3 + 2 * r) hr hr l (by rw [lv_copy]; exact Nat.le_refl _) hl redM (actRows q) (N_actRows q)) $$ [Hc Ha HO]
  · isplitr; · iexact HR
    isplitl [Hc]; · iexact Hc
    isplitl [Ha]; · iexact Ha
    iexact HO
  unfold pay
  iintro ⟨Ha, Hp, HO⟩
  iapply Hk
  isplitl [Ha Hp]
  · isplitl [Ha]; · iexact Ha
    iexact Hp
  iexact HO

/-- The chunk sent to `q` has been read. -/
theorem wp_doneRed (c : Dev nD) (q : Fin 16) (r : ℕ) (hr : r < 3) (l : List Debt) (hl : ∀ d ∈ l, d.round < 3 ∧ 0 < d.level) (Q : PUnit → sProp 𝕄) :
    iprop(records A K ∗ (credAt 2 0 c q ∗ pos 2 r c q) ∗ debt c l)
      ⊢ iprop(((pos 2 (r + 1) c q ∗ redAt c q (red A r c)) ∗ debt c l -∗ Q ⟨⟩) -∗ wpC c (doneRed c q) Q) := by
  unfold doneRed
  iintro ⟨#HR, ⟨Hc, Ha⟩, HO⟩ Hk
  iapply (wp_copyWait A K c 2 q r 0 0 hr (by decide) l (by rw [lv_copy]; exact Nat.le_refl _) hl (myActRows c) redM N_red) $$ [Hc Ha HO]
  · isplitr; · iexact HR
    isplitl [Hc]; · iexact Hc
    isplitl [Ha]; · iexact Ha
    iexact HO
  unfold pay
  iintro ⟨Ha, Hp, HO⟩
  iapply Hk
  isplitl [Ha Hp]
  · isplitl [Ha]; · iexact Ha
    iexact Hp
  iexact HO

/-! ## The sends -/

/-- The copy of the rows for `q` into `q`'s slot for `c`, the slot and the semaphore given by equations. -/
theorem wp_copyRows (c : Dev nD) (q : Fin 16) (r : ℕ) (hr : r < 3) (l : List Debt)
    (M : Memref sig .tc .vmem S16x512 .bf16) (hM : M = slot c) (s : DmaSem sig) (hs : s = semAt cc0_scratch5 c)
    {h1 : (partRows q).view.WordExact} {h2 : M.view.WordExact} {hsc : (M : Memref sig (Dev.tc (q : Dev nD) : Thread nD τ).2.kind .vmem S16x512 .bf16).view.ref.isScScratch = false}
    {h3 : DmaTarget.Typed .vmem (.dma s) (.remote (Dev.tc (q : Dev nD) : Thread nD τ) M (.dma (semAt cc0_scratch4 q)) hsc)} (Q : PUnit → sProp 𝕄) :
    iprop(records A K ∗ (dutyRows r c q ∗ rowsAt c q (part A r c) ∗ slotFree c q r ∗ actAny c q ∗ pos 3 r c q ∗ pos 0 r c q) ∗ debt c (.rows r q :: l))
      ⊢ iprop(((credAt 0 0 c q ∗ pos 3 r c q ∗ pos 0 r c q) ∗ debt c l -∗ Q ⟨⟩)
          -∗ wpC c (.op (.enqueueDma (partRows q) (.remote (Dev.tc (q : Dev nD)) M (.dma (semAt cc0_scratch4 q)) hsc) (.dma s) h1 h2 h3) .ret) Q) := by
  subst hM hs
  unfold debt pos dutyRows slotFree slotAny
  iintro ⟨#HR, ⟨⟨Ht, Ht'⟩, Hrows, ⟨⟨%fd, Hs⟩, #Hr1⟩, Hact, ⟨Ha3, #Hr3⟩, ⟨Ha0, #Hr0⟩⟩, ⟨%W, HO⟩⟩ Hk
  ihave #HI := (records_inv A K c (some (0, q))) $$ HR
  ihave #HI' := (records_inv A K q (some (1, c))) $$ HR
  unfold rowsAt slotAt
  iapply (Rounds.wp_send_pointsTo_with 𝒱₀ ER (sched A) (c : Thread nD τ) none (κ₁ := K (c, some (0, q))) (κ₂ := K (q, some (1, c)))
      (r₁ := r) (r₂ := r) (d₁ := 0) (d₂ := 0) (fd := fd) (F := iprop(actAny c q ∗ at_ c q 3 r))
      (by rw [duties_copy A c 0 q hr]; exact Finset.mem_singleton_self _) (by rw [duties_copy A q 1 c hr]; exact Finset.mem_singleton_self _)
      r 0 N (by exact N_slot c) (amount_copy A c 0 q r 0) (amount_copy A q 1 c r 0) (owing c l) rfl (W := W)
      (by rw [payload_copy]; exact BI.Entails.refl _)
      (by
        rw [payload_copy]; unfold pay actFree slotAt
        exact sep_mono_left (Entails.of_eq (pointsTo_congr fun i hi => write_slot (part A r) c q fd i hi)))) $$ [Hrows Hs Hact HO Ht Ht']
  · isplitr; · iexact HI
    isplitr; · iexact HI'
    isplitl [Hrows]; · iexact Hrows
    isplitl [Hs Hact]
    · isplitl [Hs]; · iexact Hs
      isplitl [Hact]; · iexact Hact
      iexact Hr3
    isplitl [HO]; · iexact HO
    isplitl [Ht]; · iexact Ht
    isplitr; · iexact Hr0
    isplitl [Ht']; · iexact Ht'
    iexact Hr1
  iintro ⟨Hc, HO⟩
  rw [wp_ret]; imodintro
  iapply Hk
  isplitl [Hc Ha3 Ha0]
  · isplitl [Hc]; · iexact Hc
    isplitl [Ha3]
    · isplitl [Ha3]; · iexact Ha3
      iexact Hr3
    · isplitl [Ha0]; · iexact Ha0
      iexact Hr0
  · iexists W; iexact HO

/-- The rows for `q` are on their way. -/
theorem wp_sendPart (c : Dev nD) (q : Fin 16) (r : ℕ) (hr : r < 3) (l : List Debt) (Q : PUnit → sProp 𝕄) :
    iprop(records A K ∗ (dutyRows r c q ∗ rowsAt c q (part A r c) ∗ slotFree c q r ∗ actAny c q ∗ pos 3 r c q ∗ pos 0 r c q) ∗ debt c (.rows r q :: l))
      ⊢ iprop(((credAt 0 0 c q ∗ pos 3 r c q ∗ pos 0 r c q) ∗ debt c l -∗ Q ⟨⟩) -∗ wpC c (sendPart c q) Q) :=
  wp_copyRows A K c q r hr l (mySlot c) (mySlot_eq c) (mySem cc0_scratch5 c) (mySem_eq 1 c) Q

/-- The copy of the reduced chunk into `q`'s rows for it, the rows and the semaphore given by equations. -/
theorem wp_copyChunk (c : Dev nD) (q : Fin 16) (r : ℕ) (hr : r < 3) (l : List Debt)
    (M : Memref sig .tc .vmem S16x512 .bf16) (hM : M = actRows c) (s : DmaSem sig) (hs : s = semAt cc0_scratch7 c)
    {h1 : (redM : Memref sig .tc .vmem S16x512 .bf16).view.WordExact} {h2 : M.view.WordExact} {hsc : (M : Memref sig (Dev.tc (q : Dev nD) : Thread nD τ).2.kind .vmem S16x512 .bf16).view.ref.isScScratch = false}
    {h3 : DmaTarget.Typed .vmem (.dma s) (.remote (Dev.tc (q : Dev nD) : Thread nD τ) M (.dma (semAt cc0_scratch6 q)) hsc)} (Q : PUnit → sProp 𝕄) :
    iprop(records A K ∗ (dutyChunk r c q ∗ redAt c q (red A r c) ∗ actFree c q r ∗ (if r < 2 then slotAny c q else iprop(emp)) ∗ pos 2 r c q ∗ pos 1 (r + 1) c q) ∗ debt c (.chunk r q :: l))
      ⊢ iprop(((credAt 2 0 c q ∗ pos 2 r c q ∗ pos 1 (r + 1) c q) ∗ debt c l -∗ Q ⟨⟩)
          -∗ wpC c (.op (.enqueueDma redM (.remote (Dev.tc (q : Dev nD)) M (.dma (semAt cc0_scratch6 q)) hsc) (.dma s) h1 h2 h3) .ret) Q) := by
  subst hM hs
  unfold debt pos dutyChunk actFree actAny
  iintro ⟨#HR, ⟨⟨Ht, Ht'⟩, Hred, ⟨⟨%fd, Hs⟩, #Hr3⟩, Hslot, ⟨Ha2, #Hr2⟩, ⟨Ha1, #Hr1⟩⟩, ⟨%W, HO⟩⟩ Hk
  ihave #HI := (records_inv A K c (some (2, q))) $$ HR
  ihave #HI' := (records_inv A K q (some (3, c))) $$ HR
  ihave Hnext := (show iprop((if r < 2 then slotAny c q else iprop(emp)) ∗ at_ c q 1 (r + 1)) ⊢ (nextSlot q c r : sProp 𝕄) from by
      unfold nextSlot slotFree
      split
      · exact BI.Entails.refl _
      · exact sep_elim_left) $$ [Hslot]
  · isplitl [Hslot]; · iexact Hslot
    iexact Hr1
  unfold redAt actAt
  iapply (Rounds.wp_send_pointsTo_with 𝒱₀ ER (sched A) (c : Thread nD τ) none (κ₁ := K (c, some (2, q))) (κ₂ := K (q, some (3, c)))
      (r₁ := r) (r₂ := r) (d₁ := 0) (d₂ := 0) (fd := fd) (F := nextSlot q c r)
      (by rw [duties_copy A c 2 q hr]; exact Finset.mem_singleton_self _) (by rw [duties_copy A q 3 c hr]; exact Finset.mem_singleton_self _)
      r 0 N (by exact N_actRows c) (amount_copy A c 2 q r 0) (amount_copy A q 3 c r 0) (owing c l) rfl (W := W)
      (by rw [payload_copy]; exact BI.Entails.refl _)
      (by
        rw [payload_copy]; unfold pay actAt
        exact sep_mono_left (Entails.of_eq (pointsTo_congr fun i hi => write_actRows (red A r) c fd i hi)))) $$ [Hred Hs Hnext HO Ht Ht']
  · isplitr; · iexact HI
    isplitr; · iexact HI'
    isplitl [Hred]; · iexact Hred
    isplitl [Hs Hnext]
    · isplitl [Hs]; · iexact Hs
      iexact Hnext
    isplitl [HO]; · iexact HO
    isplitl [Ht]; · iexact Ht
    isplitr; · iexact Hr2
    isplitl [Ht']; · iexact Ht'
    iexact Hr3
  iintro ⟨Hc, HO⟩
  rw [wp_ret]; imodintro
  iapply Hk
  isplitl [Hc Ha2 Ha1]
  · isplitl [Hc]; · iexact Hc
    isplitl [Ha2]
    · isplitl [Ha2]; · iexact Ha2
      iexact Hr2
    · isplitl [Ha1]; · iexact Ha1
      iexact Hr1
  · iexists W; iexact HO

/-- The reduced chunk is on its way to `q`. -/
theorem wp_sendRed (c : Dev nD) (q : Fin 16) (r : ℕ) (hr : r < 3) (l : List Debt) (Q : PUnit → sProp 𝕄) :
    iprop(records A K ∗ (dutyChunk r c q ∗ redAt c q (red A r c) ∗ actFree c q r ∗ (if r < 2 then slotAny c q else iprop(emp)) ∗ pos 2 r c q ∗ pos 1 (r + 1) c q) ∗ debt c (.chunk r q :: l))
      ⊢ iprop(((credAt 2 0 c q ∗ pos 2 r c q ∗ pos 1 (r + 1) c q) ∗ debt c l -∗ Q ⟨⟩) -∗ wpC c (sendRed c q) Q) :=
  wp_copyChunk A K c q r hr l (myActRows c) (myActRows_eq c) (mySem cc0_scratch7 c) (mySem_eq 3 c) Q

/-! ## One operation for every device of a list -/

omit [FloatOps F] in
theorem bigSepL_sep (l : List (Fin 16)) (Φ Ψ : Fin 16 → sProp 𝕄) : bigSepL l (fun q => iprop(Φ q ∗ Ψ q)) = iprop(bigSepL l Φ ∗ bigSepL l Ψ) := by
  induction l with
  | nil => exact (equiv_iff.mp emp_sep).symm
  | cons q l ih =>
    rw [bigSepL_cons', bigSepL_cons', bigSepL_cons', ih]
    refine BI.Entails.antisymm (show iprop((Φ q ∗ Ψ q) ∗ bigSepL l Φ ∗ bigSepL l Ψ) ⊢ iprop((Φ q ∗ bigSepL l Φ) ∗ Ψ q ∗ bigSepL l Ψ) from ?_)
      (show iprop((Φ q ∗ bigSepL l Φ) ∗ Ψ q ∗ bigSepL l Ψ) ⊢ iprop((Φ q ∗ Ψ q) ∗ bigSepL l Φ ∗ bigSepL l Ψ) from ?_)
    · iintro ⟨⟨H1, H2⟩, H3, H4⟩
      isplitl [H1 H3]
      · isplitl [H1]; · iexact H1
        iexact H3
      · isplitl [H2]; · iexact H2
        iexact H4
    · iintro ⟨⟨H1, H3⟩, H2, H4⟩
      isplitl [H1 H2]
      · isplitl [H1]; · iexact H1
        iexact H2
      · isplitl [H3]; · iexact H3
        iexact H4

omit [FloatOps F] in
theorem bigSepL_emp (l : List (Fin 16)) : bigSepL l (fun _ => (iprop(emp) : sProp 𝕄)) = iprop(emp) := by
  induction l with
  | nil => rfl
  | cons q l ih => rw [bigSepL_cons', ih]; exact equiv_iff.mp emp_sep

/-- That cell `(k, c)` of every device has reached round 0. -/
theorem records_every (k : Fin 4) (c : Dev nD) : ∀ l : List (Fin 16), records A K ⊢ (bigSepL l fun q => at_ q c k 0 : sProp 𝕄)
  | [] => by iintro -; iempintro
  | q :: l => by
    rw [bigSepL_cons']
    iintro #HR
    isplitr
    · iapply (records_reached A K q (some (k, c))); iexact HR
    · iapply (records_every k c l); iexact HR

/-- The run: from the piece of each device of the list and a state that goes along, the given of each device. -/
theorem wp_each (R : sProp 𝕄) [BI.Persistent R] (c : Dev nD) (f : Fin 16 → BodyProg F PUnit) (Pre Post : Fin 16 → sProp 𝕄) (S : List (Fin 16) → sProp 𝕄)
    (h : ∀ q l Q, iprop(R ∗ Pre q ∗ S (q :: l)) ⊢ iprop((Post q ∗ S l -∗ Q ⟨⟩) -∗ wpC c (f q) Q)) :
    ∀ (l : List (Fin 16)) (Q : PUnit → sProp 𝕄),
      iprop(R ∗ bigSepL l Pre ∗ S l) ⊢ iprop((bigSepL l Post ∗ S [] -∗ Q ⟨⟩) -∗ wpC c (each l f) Q)
  | [], Q => by
    unfold each
    iintro ⟨-, -, HS⟩ Hk
    rw [Prog.pure_eq_ret, wpC, wp_ret]; imodintro
    iapply Hk
    isplitr; · iempintro
    iexact HS
  | q :: l, Q => by
    unfold each
    rw [bigSepL_cons', bigSepL_cons', wpC, wp_bind]
    iintro ⟨#HR, ⟨Hp, Hl⟩, HS⟩ Hk
    iapply (h q l _) $$ [Hp HS]
    · isplitr; · iexact HR
      isplitl [Hp]; · iexact Hp
      iexact HS
    iintro ⟨Hq, HS⟩
    iapply (wp_each R c f Pre Post S h l Q) $$ [Hl HS]
    · isplitr; · iexact HR
      isplitl [Hl]; · iexact Hl
      iexact HS
    iintro ⟨Hl, HS⟩
    iapply Hk
    isplitl [Hq Hl]
    · isplitl [Hq]; · iexact Hq
      iexact Hl
    iexact HS

/-- The run of an operation that pays a debt for each device. -/
theorem wp_eachPay (R : sProp 𝕄) [BI.Persistent R] (c : Dev nD) (f : Fin 16 → BodyProg F PUnit) (Pre Post : Fin 16 → sProp 𝕄) (mk : Fin 16 → Debt) (rest : List Debt)
    (h : ∀ q l Q, iprop(R ∗ Pre q ∗ debt c (mk q :: l)) ⊢ iprop((Post q ∗ debt c l -∗ Q ⟨⟩) -∗ wpC c (f q) Q)) (l : List (Fin 16)) (Q : PUnit → sProp 𝕄) :
    iprop(R ∗ bigSepL l Pre ∗ debt c (l.map mk ++ rest)) ⊢ iprop((bigSepL l Post ∗ debt c rest -∗ Q ⟨⟩) -∗ wpC c (each l f) Q) :=
  wp_each R c f Pre Post (fun l' => debt c (l'.map mk ++ rest)) (fun q l' Q => h q (l'.map mk ++ rest) Q) l Q

end Cert.Proof

end
-- ==== Proof.Buffers.lean ====
/-
  The buffers whole and cut: a buffer held over the rows of a list of chunks is the chunks' rows held one
  by one, the slots likewise, and the reduced chunk is its sixteen shares; and what the loads and stores of
  the body read and write.
-/
module

public import proofs.«01_k».proof.Proof.Steps

@[expose] public section

noncomputable section

namespace Cert.Proof

open Cert.KernelIdeal Cert.KernelIdeal.Gen

open Idealize.ShloMosaic
open Idealize.ShloMosaic.TcCoe
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Whole and cut -/

/-- The rows of the chunks in `l` of device `c`'s partial product, -/
def partAt (c : Dev nD) (l : List (Fin 16)) (f : Vec F S256x512 .bf16) : sProp 𝕄 := partM.view.loc (c : Thread nD τ) ↦[rowsOf l]{fullShare} f
/-- of its gathered activations; -/
def gathAt (c : Dev nD) (l : List (Fin 16)) (f : Vec F S256x512 .bf16) : sProp 𝕄 := actM.view.loc (c : Thread nD τ) ↦[rowsOf l]{fullShare} f
/-- all its slots; -/
def slotsAt (c : Dev nD) (f : Vec F S16x16x512 .bf16) : sProp 𝕄 := slotM.view.loc (c : Thread nD τ) ↦[Finset.univ]{fullShare} f
/-- and its reduced chunk. -/
def chunkAt (c : Dev nD) (f : Vec F S16x512 .bf16) : sProp 𝕄 := redM.view.loc (c : Thread nD τ) ↦[Finset.univ]{fullShare} f

omit [FloatOps F] in
theorem partAt_cut (c : Dev nD) (l : List (Fin 16)) (hl : l.Nodup) (f : Vec F S256x512 .bf16) : partAt c l f = bigSepL l fun q => rowsAt c q f := by
  unfold partAt rowsAt rowsOf
  rw [← bigSep_eq_bigSepL l hl]
  exact pointsTo_biUnion (ℓ := partM.view.loc (c : Thread nD τ)) l.toFinset rowSet fun q _ q' _ h => partRows_disjoint h
omit [FloatOps F] in
theorem gathAt_cut (c : Dev nD) (l : List (Fin 16)) (hl : l.Nodup) (f : Vec F S256x512 .bf16) : gathAt c l f = bigSepL l fun q => actAt c q f := by
  have e : (fun q => actAt c q f) = fun q => (actM.view.loc (c : Thread nD τ) ↦[rowSet q]{fullShare} f : sProp 𝕄) := by
    funext q; unfold actAt; rw [actRows_set]
  rw [e]
  unfold gathAt rowsOf
  rw [← bigSep_eq_bigSepL l hl]
  exact pointsTo_biUnion (ℓ := actM.view.loc (c : Thread nD τ)) l.toFinset rowSet fun q _ q' _ h => partRows_disjoint h

theorem nodup_all16 : all16.Nodup := by decide
theorem nodup_low8 : low8.Nodup := by decide
theorem nodup_high8 : high8.Nodup := by decide
theorem univ_all16 : (Finset.univ : Finset (Fin 16)) = all16.toFinset := by decide

/-- Over all devices is over the first and the last eight. -/
theorem over_halves (Φ : Fin 16 → sProp 𝕄) : bigSepL all16 Φ = iprop(bigSepL low8 Φ ∗ bigSepL high8 Φ) := bigSepL_append low8 high8 Φ

omit [FloatOps F] in
theorem slotsAt_cut (c : Dev nD) (f : Vec F S16x16x512 .bf16) : slotsAt c f = bigSepL all16 fun q => slotAt c q f := by
  unfold slotsAt slotAt
  rw [← bigSep_univ_eq_bigSepL all16 univ_all16 nodup_all16, ← slot_cover]
  exact pointsTo_biUnion (ℓ := slotM.view.loc (c : Thread nD τ)) Finset.univ slotSet fun q _ q' _ h => slot_disjoint h
omit [FloatOps F] in
theorem chunkAt_cut (c : Dev nD) (f : Vec F S16x512 .bf16) : chunkAt c f = bigSepL all16 fun q => redAt c q f := by
  unfold chunkAt redAt
  rw [← bigSep_univ_eq_bigSepL all16 univ_all16 nodup_all16, show (redM : Memref sig .tc .vmem S16x512 .bf16).view.set = Finset.univ from View.set_whole _]
  exact pointsTo_leaves (ℓ := redM.view.loc (c : Thread nD τ)) Finset.univ f 4 fullShare
omit [FloatOps F] in
theorem slotsAt_any (c : Dev nD) (f : Vec F S16x16x512 .bf16) : slotsAt c f ⊢ bigSepL all16 fun q => slotAny (F := F) c q := by
  rw [slotsAt_cut]; exact bigSepL_mono fun q _ => by unfold slotAny; iintro H; iexists f; iexact H
omit [FloatOps F] in
theorem gathAt_any (c : Dev nD) (l : List (Fin 16)) (hl : l.Nodup) (f : Vec F S256x512 .bf16) : gathAt c l f ⊢ bigSepL l fun q => actAny (F := F) c q := by
  rw [gathAt_cut c l hl]; exact bigSepL_mono fun q _ => by unfold actAny; iintro H; iexists f; iexact H

/-! ## The accesses -/

/-- All of a 256×512 buffer, and its first and last 128 rows. -/
abbrev lowRect : Rect S256x512 := Rect.unit (s := S256x512) ![0, 0] S128x512.size inb_S256x512_S128x512_0_0
@[inherit_doc lowRect] abbrev highRect : Rect S256x512 := Rect.unit (s := S256x512) ![128, 0] S128x512.size inb_S256x512_S128x512_128_0

theorem lowRect_emb (x : S128x512.Idx) : lowRect.emb x = ix2 (⟨(x 0).val, Nat.lt_trans (x 0).isLt (by decide)⟩ : Fin 256) (x 1) := by
  funext a; match a with
  | ⟨0, _⟩ => exact Fin.ext (by show 0 + 1 * (x 0).val = (x 0).val; omega)
  | ⟨1, _⟩ => exact Fin.ext (by show 0 + 1 * (x 1).val = (x 1).val; omega)
theorem highRect_emb (x : S128x512.Idx) : highRect.emb x = ix2 (⟨128 + (x 0).val, Nat.add_lt_add_left (x 0).isLt 128⟩ : Fin 256) (x 1) := by
  funext a; match a with
  | ⟨0, _⟩ => exact Fin.ext (by show 128 + 1 * (x 0).val = 128 + (x 0).val; omega)
  | ⟨1, _⟩ => exact Fin.ext (by show 0 + 1 * (x 1).val = (x 1).val; omega)

theorem low_load_sub : (actM : Memref sig .tc .vmem S256x512 .bf16).view.setOn lowRect.toLoadRect.set ⊆ rowsOf low8 := by
  intro i hi
  obtain ⟨y, hy, rfl⟩ := Finset.mem_map.mp hi
  obtain ⟨j, hj, e⟩ := lowRect.mem_set.mp hy 0
  refine mem_rowsOf_low.mpr ?_
  show (y 0).val < 128
  have hj' : j < 128 := hj
  have e' : (y 0).val = 0 + 1 * j := e
  omega
theorem high_load_sub : (actM : Memref sig .tc .vmem S256x512 .bf16).view.setOn highRect.toLoadRect.set ⊆ rowsOf high8 := by
  intro i hi
  obtain ⟨y, hy, rfl⟩ := Finset.mem_map.mp hi
  obtain ⟨j, hj, e⟩ := highRect.mem_set.mp hy 0
  refine mem_rowsOf_high.mpr ?_
  show ¬ (y 0).val < 128
  have e' : (y 0).val = 128 + 1 * j := e
  omega
theorem low_store_sub : ((partM : Memref sig .tc .vmem S256x512 .bf16).access lowRect).setOn Finset.univ ⊆ rowsOf low8 := by
  intro i hi
  obtain ⟨x, -, rfl⟩ := Finset.mem_map.mp hi
  refine mem_rowsOf_low.mpr ?_
  show (lowRect.emb x 0).val < 128
  rw [lowRect_emb]; exact (x 0).isLt
theorem high_store_sub : ((partM : Memref sig .tc .vmem S256x512 .bf16).access highRect).setOn Finset.univ ⊆ rowsOf high8 := by
  intro i hi
  obtain ⟨x, -, rfl⟩ := Finset.mem_map.mp hi
  refine mem_rowsOf_high.mpr ?_
  show ¬ (highRect.emb x 0).val < 128
  rw [highRect_emb]; show ¬ 128 + (x 0).val < 128; omega

omit [FloatOps F] in
theorem read_low (a : Vec F S256x512 .bf16) : (actM : Memref sig .tc .vmem S256x512 .bf16).view.readAt (Elt F) lowRect.toLoadRect a = lowHalf a := by
  funext x; show a (lowRect.emb x) = _; rw [lowRect_emb]; rfl
omit [FloatOps F] in
theorem read_high (a : Vec F S256x512 .bf16) : (actM : Memref sig .tc .vmem S256x512 .bf16).view.readAt (Elt F) highRect.toLoadRect a = highHalf a := by
  funext x; show a (highRect.emb x) = _; rw [highRect_emb]; rfl
omit [FloatOps F] in
theorem write_low (f : (cc0_scratch0 : Ref sig .tc).ty.Contents (Elt F)) (lo hi : Vec F S128x512 .bf16) (i : S256x512.Idx) (h : i ∈ rowsOf low8) :
    ((partM : Memref sig .tc .vmem S256x512 .bf16).access lowRect).write (Elt F) f lo Finset.univ i = halves lo hi i := by
  have h' := mem_rowsOf_low.mp h
  have e : i = ((partM : Memref sig .tc .vmem S256x512 .bf16).access lowRect).emb (ix2 (⟨(i 0).val, h'⟩ : Fin 128) (i 1)) := by
    refine Eq.trans ?_ (lowRect_emb (ix2 (⟨(i 0).val, h'⟩ : Fin 128) (i 1))).symm
    exact eq_ix2 (n0 := 256) (n1 := 512) i
  rw [e]
  refine (View.write_emb_of_mem (v := (partM : Memref sig .tc .vmem S256x512 .bf16).access lowRect) f lo (Finset.mem_univ _)).trans ?_
  refine (halves_low lo hi _).symm.trans ?_
  exact congrArg (halves lo hi) (lowRect_emb _).symm
omit [FloatOps F] in
theorem write_high (f : (cc0_scratch0 : Ref sig .tc).ty.Contents (Elt F)) (lo hi : Vec F S128x512 .bf16) (i : S256x512.Idx) (h : i ∈ rowsOf high8) :
    ((partM : Memref sig .tc .vmem S256x512 .bf16).access highRect).write (Elt F) f hi Finset.univ i = halves lo hi i := by
  have h' := mem_rowsOf_high.mp h
  have hb : (i 0).val < 256 := (i 0).isLt
  have e : i = ((partM : Memref sig .tc .vmem S256x512 .bf16).access highRect).emb (ix2 (⟨(i 0).val - 128, by omega⟩ : Fin 128) (i 1)) := by
    refine Eq.trans ?_ (highRect_emb (ix2 (⟨(i 0).val - 128, by omega⟩ : Fin 128) (i 1))).symm
    refine (eq_ix2 (n0 := 256) (n1 := 512) i).trans ?_
    exact congrArg (fun k => ix2 (n0 := 256) (n1 := 512) k (i 1)) (Fin.ext (by show (i 0).val = 128 + ((i 0).val - 128); omega))
  rw [e]
  refine (View.write_emb_of_mem (v := (partM : Memref sig .tc .vmem S256x512 .bf16).access highRect) f hi (Finset.mem_univ _)).trans ?_
  refine (halves_high lo hi _).symm.trans ?_
  exact congrArg (halves lo hi) (highRect_emb _).symm

theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces of text between the copies -/

/-- A load of elements held. -/
theorem wp_loadHeld (c : Dev nD) {s : Shape} {e : EltTy} (m : Memref sig .tc .vmem s e) (r : LoadRect s) (hl : m.view.LoadsAt r)
    {S : Finset (Idx (m.view.loc (c : Thread nD τ)))} (hS : m.view.setOn r.set ⊆ S) (f : Buf (Elt F) (m.view.loc (c : Thread nD τ)))
    (Q : (r.shape.Idx → Elt F e) → sProp 𝕄) :
    (m.view.loc (c : Thread nD τ) ↦[S]{fullShare} f : sProp 𝕄)
      ⊢ iprop(((m.view.loc (c : Thread nD τ) ↦[S]{fullShare} f) -∗ Q (m.view.readAt (Elt F) r f)) -∗ wpC c (Prog.lift (.load m r hl)) Q) := by
  simp only [Prog.lift]
  iintro H Hk
  iapply (wp_load 𝒱₀ (c : Thread nD τ) none Set.univ (m := m) hS) $$ H
  iintro H
  rw [wp_ret]; imodintro
  iapply Hk; iexact H

/-- A store to elements held. -/
theorem wp_storeHeld (c : Dev nD) {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1)
    {S : Finset (Idx ((m.access r).loc (c : Thread nD τ)))} (hS : (m.access r).setOn Finset.univ ⊆ S) (f : Buf (Elt F) ((m.access r).loc (c : Thread nD τ)))
    (Q : PUnit → sProp 𝕄) :
    ((m.access r).loc (c : Thread nD τ) ↦[S]{fullShare} f : sProp 𝕄)
      ⊢ iprop((((m.access r).loc (c : Thread nD τ) ↦[S]{fullShare} (m.access r).write (Elt F) f w Finset.univ) -∗ Q ⟨⟩)
          -∗ wpC c (Prog.lift (.store m r w Finset.univ hx hm)) Q) := by
  simp only [Prog.lift]
  iintro H Hk
  iapply (wp_store 𝒱₀ (c : Thread nD τ) none Set.univ (m := m) (r := r) (Mk := Finset.univ) hS) $$ H
  iintro H
  rw [wp_ret]; imodintro
  iapply Hk; iexact H

end Cert.Proof

end
-- ==== Proof.Phases.lean ====
/-
  The phases of the body: a run of one operation for every device of a list, the products and the
  reduction between the runs, and a layer that is followed by another.
-/
module

public import proofs.«01_k».proof.Proof.Buffers

@[expose] public section

noncomputable section

namespace Cert.Proof

open Cert.KernelIdeal Cert.KernelIdeal.Gen

open Idealize.ShloMosaic
open Idealize.ShloMosaic.TcCoe
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The runs -/

section Runs
variable (A : Inputs F) (K : Dev nD × Own → ℕ) (c : Dev nD)

theorem wp_sayAll (l : List Debt) (Q : PUnit → sProp 𝕄) :
    iprop(records A K ∗ ((bigSepL all16 fun q => dutyTok ER (cell q none) 0 c) ∗ ∃ f, slotsAt c f) ∗ debt c (all16.map .entry ++ l))
      ⊢ iprop((debt c l -∗ Q ⟨⟩) -∗ wpC c (each all16 sayReady) Q) := by
  iintro ⟨#HR, ⟨Ht, ⟨%f, Hs⟩⟩, HO⟩ Hk
  ihave Hs := (slotsAt_any c f) $$ Hs
  iapply (wp_each (records A K) c sayReady (fun q => iprop(dutyTok ER (cell q none) 0 c ∗ slotAny c q)) (fun _ => iprop(emp))
      (fun l' => debt c (l'.map .entry ++ l)) (fun q l' Q => by
        iintro ⟨#HR, H, HO⟩ Hk
        iapply (wp_sayReady A K c q (l'.map .entry ++ l) Q) $$ [H HO]
        · isplitr; · iexact HR
          isplitl [H]; · iexact H
          iexact HO
        iintro HO
        iapply Hk
        isplitr; · iempintro
        iexact HO) all16 Q) $$ [Ht Hs HO]
  · isplitr; · iexact HR
    isplitl [Ht Hs]
    · rw [bigSepL_sep]
      isplitl [Ht]; · iexact Ht
      iexact Hs
    iexact HO
  iintro ⟨-, HO⟩
  iapply Hk; iexact HO

/-- The rows of the chunks in `l` sent, in layer `r`. -/
theorem wp_sendParts (r : ℕ) (hr : r < 3) (l : List (Fin 16)) (hl : l.Nodup) (rest : List Debt) (Q : PUnit → sProp 𝕄) :
    iprop(records A K ∗ ((bigSepL l fun q => dutyRows r c q) ∗ partAt c l (part A r c) ∗ (bigSepL l fun q => slotFree c q r)
        ∗ (∃ f, gathAt c l f) ∗ (bigSepL l fun q => pos 3 r c q) ∗ bigSepL l fun q => pos 0 r c q) ∗ debt c (l.map (.rows r) ++ rest))
      ⊢ iprop((((bigSepL l fun q => credAt 0 0 c q) ∗ (bigSepL l fun q => pos 3 r c q) ∗ bigSepL l fun q => pos 0 r c q) ∗ debt c rest -∗ Q ⟨⟩)
          -∗ wpC c (each l (sendPart c)) Q) := by
  rw [partAt_cut c l hl]
  iintro ⟨#HR, ⟨Ht, Hp, Hs, ⟨%f, Hg⟩, H3, H0⟩, HO⟩ Hk
  ihave Hg := (gathAt_any c l hl f) $$ Hg
  iapply (wp_eachPay (records A K) c (sendPart c)
      (fun q => iprop(dutyRows r c q ∗ rowsAt c q (part A r c) ∗ slotFree c q r ∗ actAny c q ∗ pos 3 r c q ∗ pos 0 r c q))
      (fun q => iprop(credAt 0 0 c q ∗ pos 3 r c q ∗ pos 0 r c q))
      (.rows r) rest (fun q l' Q => wp_sendPart A K c q r hr l' Q) l Q) $$ [Ht Hp Hs Hg H3 H0 HO]
  · isplitr; · iexact HR
    isplitl [Ht Hp Hs Hg H3 H0]
    · simp only [bigSepL_sep]
      isplitl [Ht]; · iexact Ht
      isplitl [Hp]; · iexact Hp
      isplitl [Hs]; · iexact Hs
      isplitl [Hg]; · iexact Hg
      isplitl [H3]; · iexact H3
      iexact H0
    iexact HO
  simp only [bigSepL_sep]
  iexact Hk

/-- The slots filled, in layer `r`. -/
theorem wp_takeParts (r : ℕ) (hr : r < 3) (rest : List Debt) (hrest : ∀ d ∈ rest, d.round < 3 ∧ 2 + 2 * r < d.level) (Q : PUnit → sProp 𝕄) :
    iprop(records A K ∗ ((bigSepL all16 fun q => credAt 1 r c q) ∗ bigSepL all16 fun q => pos 1 r c q) ∗ debt c rest)
      ⊢ iprop((((bigSepL all16 fun q => pos 1 (r + 1) c q) ∗ slotsAt c (slots A r c) ∗ bigSepL all16 fun q => actFree c q r) ∗ debt c rest -∗ Q ⟨⟩)
          -∗ wpC c (each all16 takePart) Q) := by
  iintro ⟨#HR, ⟨Hc, Hp⟩, HO⟩ Hk
  iapply (wp_each (records A K) c takePart
      (fun q => iprop(credAt 1 r c q ∗ pos 1 r c q))
      (fun q => iprop(pos 1 (r + 1) c q ∗ slotAt c q (slots A r c) ∗ actFree c q r))
      (fun _ => debt c rest) (fun q _ Q => wp_takePart A K c q r hr rest hrest Q) all16 Q) $$ [Hc Hp HO]
  · isplitr; · iexact HR
    isplitl [Hc Hp]
    · simp only [bigSepL_sep]
      isplitl [Hc]; · iexact Hc
      iexact Hp
    iexact HO
  rw [slotsAt_cut]
  simp only [bigSepL_sep]
  iexact Hk

/-- The rows sent in layer `r` read. -/
theorem wp_doneParts (r : ℕ) (hr : r < 3) (rest : List Debt) (hrest : ∀ d ∈ rest, d.round < 3 ∧ 0 < d.level) (Q : PUnit → sProp 𝕄) :
    iprop(records A K ∗ ((bigSepL all16 fun q => credAt 0 0 c q) ∗ bigSepL all16 fun q => pos 0 r c q) ∗ debt c rest)
      ⊢ iprop((((bigSepL all16 fun q => pos 0 (r + 1) c q) ∗ partAt c all16 (part A r c)) ∗ debt c rest -∗ Q ⟨⟩)
          -∗ wpC c (each all16 (donePart c)) Q) := by
  iintro ⟨#HR, ⟨Hc, Hp⟩, HO⟩ Hk
  iapply (wp_each (records A K) c (donePart c)
      (fun q => iprop(credAt 0 0 c q ∗ pos 0 r c q))
      (fun q => iprop(pos 0 (r + 1) c q ∗ rowsAt c q (part A r c)))
      (fun _ => debt c rest) (fun q _ Q => wp_donePart A K c q r hr rest hrest Q) all16 Q) $$ [Hc Hp HO]
  · isplitr; · iexact HR
    isplitl [Hc Hp]
    · simp only [bigSepL_sep]
      isplitl [Hc]; · iexact Hc
      iexact Hp
    iexact HO
  rw [partAt_cut c all16 nodup_all16]
  simp only [bigSepL_sep]
  iexact Hk

/-- What is left of the slots when the chunk of layer `r` is sent: given along, if a layer follows. -/
def slotsGiven (r : ℕ) : sProp 𝕄 := if r < 2 then iprop(∃ f, slotsAt c f) else iprop(emp)

/-- The chunk of layer `r` sent to everyone. -/
theorem wp_sendReds (r : ℕ) (hr : r < 3) (rest : List Debt) (Q : PUnit → sProp 𝕄) :
    iprop(records A K ∗ ((bigSepL all16 fun q => dutyChunk r c q) ∗ chunkAt c (red A r c) ∗ (bigSepL all16 fun q => actFree c q r)
        ∗ slotsGiven c r ∗ (bigSepL all16 fun q => pos 2 r c q) ∗ bigSepL all16 fun q => pos 1 (r + 1) c q) ∗ debt c (all16.map (.chunk r) ++ rest))
      ⊢ iprop((((bigSepL all16 fun q => credAt 2 0 c q) ∗ (bigSepL all16 fun q => pos 2 r c q) ∗ bigSepL all16 fun q => pos 1 (r + 1) c q) ∗ debt c rest -∗ Q ⟨⟩)
          -∗ wpC c (each all16 (sendRed c)) Q) := by
  rw [chunkAt_cut]
  iintro ⟨#HR, ⟨Ht, Hp, Hs, Hg, H3, H0⟩, HO⟩ Hk
  ihave Hg := (show slotsGiven c r ⊢ (bigSepL all16 fun q => (if r < 2 then slotAny c q else iprop(emp)) : sProp 𝕄) from by
      unfold slotsGiven
      split
      · iintro ⟨%f, H⟩; iapply (slotsAt_any c f); iexact H
      · exact (Entails.of_eq (bigSepL_emp all16).symm)) $$ Hg
  iapply (wp_eachPay (records A K) c (sendRed c)
      (fun q => iprop(dutyChunk r c q ∗ redAt c q (red A r c) ∗ actFree c q r ∗ (if r < 2 then slotAny c q else iprop(emp)) ∗ pos 2 r c q ∗ pos 1 (r + 1) c q))
      (fun q => iprop(credAt 2 0 c q ∗ pos 2 r c q ∗ pos 1 (r + 1) c q))
      (.chunk r) rest (fun q l' Q => wp_sendRed A K c q r hr l' Q) all16 Q) $$ [Ht Hp Hs Hg H3 H0 HO]
  · isplitr; · iexact HR
    isplitl [Ht Hp Hs Hg H3 H0]
    · simp only [bigSepL_sep]
      isplitl [Ht]; · iexact Ht
      isplitl [Hp]; · iexact Hp
      isplitl [Hs]; · iexact Hs
      isplitl [Hg]; · iexact Hg
      isplitl [H3]; · iexact H3
      iexact H0
    iexact HO
  simp only [bigSepL_sep]
  iexact Hk

/-- The chunks of the devices in `l` landed, in layer `r`. -/
theorem wp_takeReds (r : ℕ) (hr : r < 3) (l : List (Fin 16)) (hl : l.Nodup) (rest : List Debt) (hrest : ∀ d ∈ rest, d.round < 3 ∧ 3 + 2 * r < d.level) (Q : PUnit → sProp 𝕄) :
    iprop(records A K ∗ ((bigSepL l fun q => credAt 3 r c q) ∗ bigSepL l fun q => pos 3 r c q) ∗ debt c rest)
      ⊢ iprop((((bigSepL l fun q => pos 3 (r + 1) c q) ∗ gathAt c l (act A r) ∗ bigSepL l fun q => nextSlot c q r) ∗ debt c rest -∗ Q ⟨⟩)
          -∗ wpC c (each l takeRed) Q) := by
  iintro ⟨#HR, ⟨Hc, Hp⟩, HO⟩ Hk
  iapply (wp_each (records A K) c takeRed
      (fun q => iprop(credAt 3 r c q ∗ pos 3 r c q))
      (fun q => iprop(pos 3 (r + 1) c q ∗ actAt c q (act A r) ∗ nextSlot c q r))
      (fun _ => debt c rest) (fun q _ Q => wp_takeRed A K c q r hr rest hrest Q) l Q) $$ [Hc Hp HO]
  · isplitr; · iexact HR
    isplitl [Hc Hp]
    · simp only [bigSepL_sep]
      isplitl [Hc]; · iexact Hc
      iexact Hp
    iexact HO
  rw [gathAt_cut c l hl]
  simp only [bigSepL_sep]
  iexact Hk

/-- The chunks sent in layer `r` read. -/
theorem wp_doneReds (r : ℕ) (hr : r < 3) (rest : List Debt) (hrest : ∀ d ∈ rest, d.round < 3 ∧ 0 < d.level) (Q : PUnit → sProp 𝕄) :
    iprop(records A K ∗ ((bigSepL all16 fun q => credAt 2 0 c q) ∗ bigSepL all16 fun q => pos 2 r c q) ∗ debt c rest)
      ⊢ iprop((((bigSepL all16 fun q => pos 2 (r + 1) c q) ∗ chunkAt c (red A r c)) ∗ debt c rest -∗ Q ⟨⟩)
          -∗ wpC c (each all16 (doneRed c)) Q) := by
  iintro ⟨#HR, ⟨Hc, Hp⟩, HO⟩ Hk
  iapply (wp_each (records A K) c (doneRed c)
      (fun q => iprop(credAt 2 0 c q ∗ pos 2 r c q))
      (fun q => iprop(pos 2 (r + 1) c q ∗ redAt c q (red A r c)))
      (fun _ => debt c rest) (fun q _ Q => wp_doneRed A K c q r hr rest hrest Q) all16 Q) $$ [Hc Hp HO]
  · isplitr; · iexact HR
    isplitl [Hc Hp]
    · simp only [bigSepL_sep]
      isplitl [Hc]; · iexact Hc
      iexact Hp
    iexact HO
  rw [chunkAt_cut]
  simp only [bigSepL_sep]
  iexact Hk

/-- A layer's exchange: the slots filled, and the rows of the partial product back. -/
theorem wp_collect (r : ℕ) (hr : r < 3) (rest : List Debt) (hrest : ∀ d ∈ rest, d.round < 3 ∧ 2 + 2 * r < d.level) (Q : PUnit → sProp 𝕄) :
    iprop(records A K ∗ ((bigSepL all16 fun q => credAt 1 r c q) ∗ (bigSepL all16 fun q => pos 1 r c q)
        ∗ (bigSepL all16 fun q => credAt 0 0 c q) ∗ bigSepL all16 fun q => pos 0 r c q) ∗ debt c rest)
      ⊢ iprop((((bigSepL all16 fun q => pos 1 (r + 1) c q) ∗ slotsAt c (slots A r c) ∗ (bigSepL all16 fun q => actFree c q r)
          ∗ (bigSepL all16 fun q => pos 0 (r + 1) c q) ∗ partAt c all16 (part A r c)) ∗ debt c rest -∗ Q ⟨⟩)
          -∗ wpC c (collect c) Q) := by
  unfold collect
  iintro ⟨#HR, ⟨Hc1, Hp1, Hc0, Hp0⟩, HO⟩ Hk
  rw [wpC, wp_bind]
  iapply (wp_takeParts A K c r hr rest hrest) $$ [Hc1 Hp1 HO]
  · isplitr; · iexact HR
    isplitl [Hc1 Hp1]
    · isplitl [Hc1]; · iexact Hc1
      iexact Hp1
    iexact HO
  iintro ⟨⟨Hp1, Hs, Hf⟩, HO⟩
  iapply (wp_doneParts A K c r hr rest (fun d hd => ⟨(hrest d hd).1, Nat.lt_of_le_of_lt (Nat.zero_le _) (hrest d hd).2⟩)) $$ [Hc0 Hp0 HO]
  · isplitr; · iexact HR
    isplitl [Hc0 Hp0]
    · isplitl [Hc0]; · iexact Hc0
      iexact Hp0
    iexact HO
  iintro ⟨⟨Hp0, Hrows⟩, HO⟩
  iapply Hk
  isplitl [Hp1 Hs Hf Hp0 Hrows]
  · isplitl [Hp1]; · iexact Hp1
    isplitl [Hs]; · iexact Hs
    isplitl [Hf]; · iexact Hf
    isplitl [Hp0]; · iexact Hp0
    iexact Hrows
  iexact HO

end Runs

end Cert.Proof

end
-- ==== Proof.Products.lean ====
/-
  The products and the reduction between the runs of copies, on the buffers held.
-/
module

public import proofs.«01_k».proof.Proof.Phases

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A staging buffer of device `c`, held whole. -/
abbrev held (c : Dev nD) {s : Shape} {e : EltTy} (m : Memref sig .tc .vmem s e) (f : Buf (Elt F) (m.view.loc (c : Thread nD τ))) : sProp 𝕄 :=
  m.view.loc (c : Thread nD τ) ↦[Finset.univ]{fullShare} f

/-! ## Reading and writing whole buffers -/

omit [FloatOps F] in
theorem read_xM (f : (cc0_stg0_0 : Ref sig .tc).ty.Contents (Elt F)) : (xM : Memref sig .tc .vmem S256x256 .bf16).view.readAt (Elt F)
    (Rect.unit (s := S256x256) ![0, 0] S256x256.size inb_S256x256_S256x256_0_0).toLoadRect f = f := Memref.readAt_unit_zero (Elt F) cc0_stg0_0 hz2 _ f
omit [FloatOps F] in
theorem read_win0M (f : (cc0_stg1_0 : Ref sig .tc).ty.Contents (Elt F)) : (win0M : Memref sig .tc .vmem S256x512 .bf16).view.readAt (Elt F)
    (Rect.unit (s := S256x512) ![0, 0] S256x512.size inb_S256x512_S256x512_0_0).toLoadRect f = f := Memref.readAt_unit_zero (Elt F) cc0_stg1_0 hz2 _ f
omit [FloatOps F] in
theorem read_wout2M (f : (cc0_stg6_0 : Ref sig .tc).ty.Contents (Elt F)) : (wout2M : Memref sig .tc .vmem S512x256 .bf16).view.readAt (Elt F)
    (Rect.unit (s := S512x256) ![0, 0] S512x256.size inb_S512x256_S512x256_0_0).toLoadRect f = f := Memref.readAt_unit_zero (Elt F) cc0_stg6_0 hz2 _ f
omit [FloatOps F] in
theorem read_slotM (f : (cc0_scratch1 : Ref sig .tc).ty.Contents (Elt F)) : (slotM : Memref sig .tc .vmem S16x16x512 .bf16).view.readAt (Elt F)
    (Rect.unit (s := S16x16x512) ![0, 0, 0] S16x16x512.size inb_S16x16x512_S16x16x512_0_0_0).toLoadRect f = f := Memref.readAt_unit_zero (Elt F) cc0_scratch1 hz3 _ f
omit [FloatOps F] in
theorem read_actM (f : (cc0_scratch2 : Ref sig .tc).ty.Contents (Elt F)) : (actM : Memref sig .tc .vmem S256x512 .bf16).view.readAt (Elt F)
    (Rect.unit (s := S256x512) ![0, 0] S256x512.size inb_S256x512_S256x512_0_0).toLoadRect f = f := Memref.readAt_unit_zero (Elt F) cc0_scratch2 hz2 _ f
omit [FloatOps F] in
theorem write_partM (f w : (cc0_scratch0 : Ref sig .tc).ty.Contents (Elt F)) : ((partM : Memref sig .tc .vmem S256x512 .bf16).access
    (Rect.unit (s := S256x512) ![0, 0] S256x512.size inb_S256x512_S256x512_0_0)).write (Elt F) f w Finset.univ = w := Memref.write_access_unit_zero_univ (Elt F) cc0_scratch0 hz2 _ f w
omit [FloatOps F] in
theorem write_redM (f w : (cc0_scratch3 : Ref sig .tc).ty.Contents (Elt F)) : ((redM : Memref sig .tc .vmem S16x512 .bf16).access
    (Rect.unit (s := S16x512) ![0, 0] S16x512.size inb_S16x512_S16x512_0_0)).write (Elt F) f w Finset.univ = w := Memref.write_access_unit_zero_univ (Elt F) cc0_scratch3 hz2 _ f w
omit [FloatOps F] in
theorem write_outM (f w : (cc0_stg7_0 : Ref sig .tc).ty.Contents (Elt F)) : ((outM : Memref sig .tc .vmem S256x256 .f32).access
    (Rect.unit (s := S256x256) ![0, 0] S256x256.size inb_S256x256_S256x256_0_0)).write (Elt F) f w Finset.univ = w := Memref.write_access_unit_zero_univ (Elt F) cc0_stg7_0 hz2 _ f w

omit [FloatOps F] in
theorem low_written (c : Dev nD) (f : Vec F S256x512 .bf16) (lo hi : Vec F S128x512 .bf16) :
    (((partM : Memref sig .tc .vmem S256x512 .bf16).access lowRect).loc (c : Thread nD τ) ↦[rowsOf low8]{fullShare}
        ((partM : Memref sig .tc .vmem S256x512 .bf16).access lowRect).write (Elt F) f lo Finset.univ : sProp 𝕄)
      ⊢ partM.view.loc (c : Thread nD τ) ↦[rowsOf low8]{fullShare} halves lo hi :=
  Entails.of_eq (pointsTo_congr (ℓ := partM.view.loc (c : Thread nD τ)) fun i hi' => write_low f lo hi i hi')
omit [FloatOps F] in
theorem high_written (c : Dev nD) (f : Vec F S256x512 .bf16) (lo hi : Vec F S128x512 .bf16) :
    (((partM : Memref sig .tc .vmem S256x512 .bf16).access highRect).loc (c : Thread nD τ) ↦[rowsOf high8]{fullShare}
        ((partM : Memref sig .tc .vmem S256x512 .bf16).access highRect).write (Elt F) f hi Finset.univ : sProp 𝕄)
      ⊢ partM.view.loc (c : Thread nD τ) ↦[rowsOf high8]{fullShare} halves lo hi :=
  Entails.of_eq (pointsTo_congr (ℓ := partM.view.loc (c : Thread nD τ)) fun i hi' => write_high f lo hi i hi')

/-! ## The pieces -/

variable (A : Inputs F) (c : Dev nD)

/-- The first product. -/
theorem wp_first (Q : PUnit → sProp 𝕄) :
    iprop(held c xM (A.x c) ∗ held c win0M (A.win 0 c) ∗ ∃ f, partAt c all16 f)
      ⊢ iprop((held c xM (A.x c) ∗ held c win0M (A.win 0 c) ∗ partAt c all16 (part A 0 c) -∗ Q ⟨⟩) -∗ wpC c first Q) := by
  unfold first partAt
  rw [rowsOf_all]
  iintro ⟨Hx, Hw, ⟨%f, Hp⟩⟩ Hk
  rw [wpC, wp_bind]
  iapply (wp_loadHeld c xM _ _ (Finset.subset_univ _) (A.x c)) $$ Hx
  iintro Hx
  rw [read_xM, wp_bind]
  iapply (wp_loadHeld c win0M _ _ (Finset.subset_univ _) (A.win 0 c)) $$ Hw
  iintro Hw
  rw [read_win0M, wp_bind]
  iapply (wp_loadHeld c partM _ _ (Finset.subset_univ _) f) $$ Hp
  iintro Hp
  iapply (wp_storeHeld c partM (Rect.unit (s := S256x512) ![0, 0] S256x512.size inb_S256x512_S256x512_0_0) _ _ _ (Finset.subset_univ _) f) $$ Hp
  iintro Hp
  rw [write_partM, part_zero]
  iapply Hk
  isplitl [Hx]; · iexact Hx
  isplitl [Hw]; · iexact Hw
  iexact Hp

/-- The reduction. -/
theorem wp_reduce (r : ℕ) (Q : PUnit → sProp 𝕄) :
    iprop(slotsAt c (slots A r c) ∗ ∃ f, chunkAt c f)
      ⊢ iprop((slotsAt c (slots A r c) ∗ chunkAt c (red A r c) -∗ Q ⟨⟩) -∗ wpC c reduce Q) := by
  unfold reduce slotsAt chunkAt
  iintro ⟨Hs, ⟨%f, Hp⟩⟩ Hk
  rw [wpC, wp_bind]
  iapply (wp_loadHeld c slotM _ _ (Finset.subset_univ _) (slots A r c)) $$ Hs
  iintro Hs
  rw [read_slotM, wp_bind]
  iapply (wp_loadHeld c redM _ _ (Finset.subset_univ _) f) $$ Hp
  iintro Hp
  iapply (wp_storeHeld c redM (Rect.unit (s := S16x512) ![0, 0] S16x512.size inb_S16x512_S16x512_0_0) _ _ _ (Finset.subset_univ _) f) $$ Hp
  iintro Hp
  rw [write_redM, red_eq]
  iapply Hk
  isplitl [Hs]; · iexact Hs
  iexact Hp

/-- The two products over the first 128 rows. -/
theorem wp_lowStep (r : ℕ) (Q : PUnit → sProp 𝕄) :
    iprop(gathAt c low8 (act A r) ∗ partAt c low8 (part A r c))
      ⊢ iprop((gathAt c low8 (act A r) ∗ partAt c low8 (part A (r + 1) c) -∗ Q ⟨⟩)
          -∗ wpC c (lowStep (k0_pay3 (A.wout r c)) (k0_pay4 (A.win (r + 1) c))) Q) := by
  unfold lowStep gathAt partAt
  iintro ⟨Hg, Hp⟩ Hk
  rw [wpC, wp_bind]
  iapply (wp_loadHeld c actM lowRect.toLoadRect _ low_load_sub (act A r)) $$ Hg
  iintro Hg
  rw [read_low, wp_bind]
  iapply (wp_loadHeld c partM lowRect.toLoadRect _ low_load_sub (part A r c)) $$ Hp
  iintro Hp
  iapply (wp_storeHeld c partM lowRect _ _ _ low_store_sub (part A r c)) $$ Hp
  iintro Hp
  iapply Hk
  isplitl [Hg]; · iexact Hg
  rw [part_succ]
  iapply (low_written c); iexact Hp

/-- The two products over the last 128 rows. -/
theorem wp_highStep (r : ℕ) (Q : PUnit → sProp 𝕄) :
    iprop(gathAt c high8 (act A r) ∗ partAt c high8 (part A r c))
      ⊢ iprop((gathAt c high8 (act A r) ∗ partAt c high8 (part A (r + 1) c) -∗ Q ⟨⟩)
          -∗ wpC c (highStep (k0_pay3 (A.wout r c)) (k0_pay4 (A.win (r + 1) c))) Q) := by
  unfold highStep gathAt partAt
  iintro ⟨Hg, Hp⟩ Hk
  rw [wpC, wp_bind]
  iapply (wp_loadHeld c actM highRect.toLoadRect _ high_load_sub (act A r)) $$ Hg
  iintro Hg
  rw [read_high, wp_bind]
  iapply (wp_loadHeld c partM highRect.toLoadRect _ high_load_sub (part A r c)) $$ Hp
  iintro Hp
  iapply (wp_storeHeld c partM highRect _ _ _ high_store_sub (part A r c)) $$ Hp
  iintro Hp
  iapply Hk
  isplitl [Hg]; · iexact Hg
  rw [part_succ]
  iapply (high_written c); iexact Hp

/-- The last product. -/
theorem wp_last (Q : PUnit → sProp 𝕄) :
    iprop(gathAt c all16 (act A 2) ∗ held c wout2M (A.wout 2 c) ∗ ∃ f, held c outM f)
      ⊢ iprop((gathAt c all16 (act A 2) ∗ held c wout2M (A.wout 2 c) ∗ held c outM (result A c) -∗ Q ⟨⟩) -∗ wpC c last Q) := by
  unfold last gathAt
  rw [rowsOf_all]
  iintro ⟨Hx, Hw, ⟨%f, Hp⟩⟩ Hk
  rw [wpC, wp_bind]
  iapply (wp_loadHeld c actM _ _ (Finset.subset_univ _) (act A 2)) $$ Hx
  iintro Hx
  rw [read_actM, wp_bind]
  iapply (wp_loadHeld c wout2M _ _ (Finset.subset_univ _) (A.wout 2 c)) $$ Hw
  iintro Hw
  rw [read_wout2M, wp_bind]
  iapply (wp_loadHeld c outM _ _ (Finset.subset_univ _) f) $$ Hp
  iintro Hp
  iapply (wp_storeHeld c outM (Rect.unit (s := S256x256) ![0, 0] S256x256.size inb_S256x256_S256x256_0_0) _ _ _ (Finset.subset_univ _) f) $$ Hp
  iintro Hp
  rw [write_outM]
  iapply Hk
  isplitl [Hx]; · iexact Hx
  isplitl [Hw]; · iexact Hw
  iexact Hp

end Cert.Proof

end
-- ==== Proof.Layers.lean ====
/-
  The layers of the body: the opening, a layer that is followed by another, the turn from one to the next,
  and the last; and the body of a device put together from them.
-/
module

public import proofs.«01_k».proof.Proof.Products

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- One piece for every device. -/
abbrev every (Φ : Fin 16 → sProp 𝕄) : sProp 𝕄 := bigSepL all16 Φ

theorem partAt_halves (c : Dev nD) (f : Vec F S256x512 .bf16) : partAt c all16 f = iprop(partAt c low8 f ∗ partAt c high8 f) := by
  rw [partAt_cut c all16 nodup_all16, partAt_cut c low8 nodup_low8, partAt_cut c high8 nodup_high8, over_halves]

variable (A : Inputs F) (K : Dev nD × Own → ℕ) (c : Dev nD)

/-- Before the chunk of layer `r` is sent: the slots and the partial product of the layer held, the chunk reduced. -/
def before (r : ℕ) : sProp 𝕄 :=
  iprop(every (pos 1 (r + 1) c) ∗ slotsAt c (slots A r c) ∗ (every fun q => actFree c q r) ∗ every (pos 0 (r + 1) c) ∗ partAt c all16 (part A r c)
    ∗ every (pos 2 r c) ∗ chunkAt c (red A r c) ∗ every (pos 3 r c))

/-- After the rows of layer `r + 1` are sent: the chunk of layer `r` and the rows of the next under way. -/
def after (r : ℕ) : sProp 𝕄 :=
  iprop(every (credAt 2 0 c) ∗ every (pos 2 r c) ∗ every (pos 1 (r + 1) c) ∗ every (credAt 0 0 c) ∗ every (pos 3 (r + 1) c) ∗ every (pos 0 (r + 1) c))

/-- The two weights of a layer that is followed by another, in their staging buffers. -/
def weights (woM : Memref sig .tc .vmem S512x256 .bf16) (wiM : Memref sig .tc .vmem S256x512 .bf16)
    (fo : Buf (Elt F) (woM.view.loc (c : Thread nD τ))) (fi : Buf (Elt F) (wiM.view.loc (c : Thread nD τ))) : sProp 𝕄 :=
  iprop(held c woM fo ∗ held c wiM fi)

/-- A layer that is followed by another, from its chunk on. -/
theorem wp_middle (r : ℕ) (hr : r < 2) (woM : Memref sig .tc .vmem S512x256 .bf16) (wiM : Memref sig .tc .vmem S256x512 .bf16)
    (fo : Buf (Elt F) (woM.view.loc (c : Thread nD τ))) (fi : Buf (Elt F) (wiM.view.loc (c : Thread nD τ)))
    (ho : woM.view.readAt (Elt F) (Rect.unit (s := S512x256) ![0, 0] S512x256.size inb_S512x256_S512x256_0_0).toLoadRect fo = A.wout r c)
    (hi : wiM.view.readAt (Elt F) (Rect.unit (s := S256x512) ![0, 0] S256x512.size inb_S256x512_S256x512_0_0).toLoadRect fi = A.win (r + 1) c)
    (rest : List Debt) (hhi : ∀ d ∈ high8.map (.rows (r + 1)) ++ rest, d.round < 3 ∧ 3 + 2 * r < d.level)
    (hlo : ∀ d ∈ low8.map (.rows (r + 1)) ++ (high8.map (.rows (r + 1)) ++ rest), d.round < 3 ∧ 3 + 2 * r < d.level) (Q : PUnit → sProp 𝕄) :
    iprop(records A K ∗ (before A c r ∗ every (dutyChunk r c) ∗ every (credAt 3 r c) ∗ every (dutyRows (r + 1) c) ∗ weights c woM wiM fo fi)
        ∗ debt c (all16.map (.chunk r) ++ (low8.map (.rows (r + 1)) ++ (high8.map (.rows (r + 1)) ++ rest))))
      ⊢ iprop(((after c r ∗ weights c woM wiM fo fi) ∗ debt c rest -∗ Q ⟨⟩) -∗ wpC c (middle c woM wiM) Q) := by
  unfold middle before after weights every
  rw [partAt_halves, over_halves (credAt 3 r c), over_halves (pos 3 r c), over_halves (dutyRows (r + 1) c), over_halves (pos 0 (r + 1) c),
    over_halves (credAt 0 0 c), over_halves (pos 3 (r + 1) c)]
  iintro ⟨#HR, ⟨⟨Hp1, Hs, Hf, ⟨H0l, H0h⟩, ⟨Hpl, Hph⟩, Hp2, Hc, ⟨H3l, H3h⟩⟩, Htc, ⟨Hcl, Hch⟩, ⟨Htl, Hth⟩, ⟨Ho, Hi⟩⟩, HO⟩ Hk
  rw [wpC, wp_bind]
  iapply (wp_sendReds A K c r (by omega) _) $$ [Htc Hc Hf Hs Hp2 Hp1 HO]
  · isplitr; · iexact HR
    isplitl [Htc Hc Hf Hs Hp2 Hp1]
    · isplitl [Htc]; · iexact Htc
      isplitl [Hc]; · iexact Hc
      isplitl [Hf]; · iexact Hf
      isplitl [Hs]
      · unfold slotsGiven; rw [if_pos hr]; iexists slots A r c; iexact Hs
      isplitl [Hp2]; · iexact Hp2
      iexact Hp1
    iexact HO
  iintro ⟨⟨Hc2, Hp2, Hp1⟩, HO⟩
  rw [wp_bind]
  iapply (wp_loadHeld c woM _ _ (Finset.subset_univ _) fo) $$ Ho
  iintro Ho
  rw [ho, wp_bind]
  iapply (wp_loadHeld c wiM _ _ (Finset.subset_univ _) fi) $$ Hi
  iintro Hi
  rw [hi, wp_bind]
  iapply (wp_takeReds A K c r (by omega) low8 nodup_low8 _ hlo) $$ [Hcl H3l HO]
  · isplitr; · iexact HR
    isplitl [Hcl H3l]
    · isplitl [Hcl]; · iexact Hcl
      iexact H3l
    iexact HO
  iintro ⟨⟨H3l, Hgl, Hsl⟩, HO⟩
  rw [wp_bind]
  iapply (wp_lowStep A c r) $$ [Hgl Hpl]
  · isplitl [Hgl]; · iexact Hgl
    iexact Hpl
  iintro ⟨Hgl, Hpl⟩
  rw [wp_bind]
  iapply (wp_sendParts A K c (r + 1) (by omega) low8 nodup_low8 _) $$ [Htl Hpl Hsl Hgl H3l H0l HO]
  · isplitr; · iexact HR
    isplitl [Htl Hpl Hsl Hgl H3l H0l]
    · isplitl [Htl]; · iexact Htl
      isplitl [Hpl]; · iexact Hpl
      isplitl [Hsl]
      · iapply (bigSepL_mono fun q _ => Entails.of_eq (show nextSlot (F := F) c q r = slotFree c q (r + 1) from if_pos hr)); iexact Hsl
      isplitl [Hgl]; · iexists act A r; iexact Hgl
      isplitl [H3l]; · iexact H3l
      iexact H0l
    iexact HO
  iintro ⟨⟨Hcl, H3l, H0l⟩, HO⟩
  rw [wp_bind]
  iapply (wp_takeReds A K c r (by omega) high8 nodup_high8 _ hhi) $$ [Hch H3h HO]
  · isplitr; · iexact HR
    isplitl [Hch H3h]
    · isplitl [Hch]; · iexact Hch
      iexact H3h
    iexact HO
  iintro ⟨⟨H3h, Hgh, Hsh⟩, HO⟩
  rw [wp_bind]
  iapply (wp_highStep A c r) $$ [Hgh Hph]
  · isplitl [Hgh]; · iexact Hgh
    iexact Hph
  iintro ⟨Hgh, Hph⟩
  iapply (wp_sendParts A K c (r + 1) (by omega) high8 nodup_high8 rest) $$ [Hth Hph Hsh Hgh H3h H0h HO]
  · isplitr; · iexact HR
    isplitl [Hth Hph Hsh Hgh H3h H0h]
    · isplitl [Hth]; · iexact Hth
      isplitl [Hph]; · iexact Hph
      isplitl [Hsh]
      · iapply (bigSepL_mono fun q _ => Entails.of_eq (show nextSlot (F := F) c q r = slotFree c q (r + 1) from if_pos hr)); iexact Hsh
      isplitl [Hgh]; · iexists act A r; iexact Hgh
      isplitl [H3h]; · iexact H3h
      iexact H0h
    iexact HO
  iintro ⟨⟨Hch, H3h, H0h⟩, HO⟩
  iapply Hk
  isplitr [HO]
  · isplitr [Ho Hi]
    · isplitl [Hc2]; · iexact Hc2
      isplitl [Hp2]; · iexact Hp2
      isplitl [Hp1]; · iexact Hp1
      isplitl [Hcl Hch]
      · isplitl [Hcl]; · iexact Hcl
        iexact Hch
      isplitl [H3l H3h]
      · isplitl [H3l]; · iexact H3l
        iexact H3h
      isplitl [H0l]; · iexact H0l
      iexact H0h
    · isplitl [Ho]; · iexact Ho
      iexact Hi
  · iexact HO

/-- The turn to the next layer: its slots filled and reduced, the copies of the layer before read out. -/
def turn : BodyProg F PUnit := do
  collect c
  each all16 (doneRed c)
  reduce

theorem wp_turn (r : ℕ) (hr : r < 2) (rest : List Debt) (hrest : ∀ d ∈ rest, d.round < 3 ∧ 2 + 2 * (r + 1) < d.level) (Q : PUnit → sProp 𝕄) :
    iprop(records A K ∗ (after c r ∗ every (credAt 1 (r + 1) c)) ∗ debt c rest)
      ⊢ iprop((before A c (r + 1) ∗ debt c rest -∗ Q ⟨⟩) -∗ wpC c (turn c) Q) := by
  unfold turn after before
  iintro ⟨#HR, ⟨⟨Hc2, Hp2, Hp1, Hc0, Hp3, Hp0⟩, Hc1⟩, HO⟩ Hk
  rw [wpC, wp_bind]
  iapply (wp_collect A K c (r + 1) (by omega) rest hrest) $$ [Hc1 Hp1 Hc0 Hp0 HO]
  · isplitr; · iexact HR
    isplitl [Hc1 Hp1 Hc0 Hp0]
    · isplitl [Hc1]; · iexact Hc1
      isplitl [Hp1]; · iexact Hp1
      isplitl [Hc0]; · iexact Hc0
      iexact Hp0
    iexact HO
  iintro ⟨⟨Hp1, Hs, Hf, Hp0, Hrows⟩, HO⟩
  rw [wp_bind]
  iapply (wp_doneReds A K c r (by omega) rest (fun d hd => ⟨(hrest d hd).1, Nat.lt_of_le_of_lt (Nat.zero_le _) (hrest d hd).2⟩)) $$ [Hc2 Hp2 HO]
  · isplitr; · iexact HR
    isplitl [Hc2 Hp2]
    · isplitl [Hc2]; · iexact Hc2
      iexact Hp2
    iexact HO
  iintro ⟨⟨Hp2, Hc⟩, HO⟩
  iapply (wp_reduce A c (r + 1)) $$ [Hs Hc]
  · isplitl [Hs]; · iexact Hs
    iexists red A r c; iexact Hc
  iintro ⟨Hs, Hc⟩
  iapply Hk
  isplitr [HO]
  · isplitl [Hp1]; · iexact Hp1
    isplitl [Hs]; · iexact Hs
    isplitl [Hf]; · iexact Hf
    isplitl [Hp0]; · iexact Hp0
    isplitl [Hrows]; · iexact Hrows
    isplitl [Hp2]; · iexact Hp2
    isplitl [Hc]; · iexact Hc
    iexact Hp3
  · iexact HO

/-- What device `c` starts with, for its own entry; -/
def entryPart : sProp 𝕄 :=
  iprop((every fun q => dutyTok ER (cell q none) 0 c) ∗ cred (tallyAt (cell c none) 0 16) ∗ atPos ER (cell c none) 0 ∅ 0)
/-- the scratch buffers at whatever they hold; -/
def scratch : sProp 𝕄 :=
  iprop((∃ f, partAt c all16 f) ∗ (∃ f, slotsAt c f) ∗ (∃ f, gathAt c all16 f) ∗ ∃ f, chunkAt c f)
/-- its place on all its cells; -/
def places (r : ℕ) : sProp 𝕄 := iprop(every (pos 0 r c) ∗ every (pos 1 r c) ∗ every (pos 2 r c) ∗ every (pos 3 r c))
/-- and the duties and the credits of layer `r`. -/
def layerPart (r : ℕ) : sProp 𝕄 := iprop(every (dutyRows r c) ∗ every (dutyChunk r c) ∗ every (credAt 1 r c) ∗ every (credAt 3 r c))

/-- Up to the first chunk: everyone entered, the first partial product computed, sent, collected and reduced. -/
def start : BodyProg F PUnit := do
  opening c
  collect c
  reduce

theorem wp_start (rest : List Debt) (hrest : ∀ d ∈ rest, d.round < 3 ∧ 2 < d.level) (hall : ∀ d ∈ all16.map (.rows 0) ++ rest, d.round < 3 ∧ 1 < d.level) (Q : PUnit → sProp 𝕄) :
    iprop(records A K ∗ (entryPart c ∗ scratch c ∗ places c 0 ∗ every (dutyRows 0 c) ∗ every (credAt 1 0 c) ∗ held c xM (A.x c) ∗ held c win0M (A.win 0 c))
        ∗ debt c (all16.map .entry ++ (all16.map (.rows 0) ++ rest)))
      ⊢ iprop(((before A c 0 ∗ atPos ER (cell c none) 1 ∅ 0 ∗ held c xM (A.x c) ∗ held c win0M (A.win 0 c)) ∗ debt c rest -∗ Q ⟨⟩) -∗ wpC c (start c) Q) := by
  unfold start opening entryPart scratch places before
  iintro ⟨#HR, ⟨⟨Ht, Hce, Hae⟩, ⟨Hp, Hs, Hg, Hc⟩, ⟨Hp0, Hp1, Hp2, Hp3⟩, Htr, Hc1, Hx, Hw⟩, HO⟩ Hk
  rw [wpC, wp_bind, wp_bind]
  iapply (wp_sayAll A K c _) $$ [Ht Hs HO]
  · isplitr; · iexact HR
    isplitl [Ht Hs]
    · isplitl [Ht]; · iexact Ht
      iexact Hs
    iexact HO
  iintro HO
  rw [wp_bind]
  iapply (wp_allReady A K c _ hall) $$ [Hce Hae HO]
  · isplitr; · iexact HR
    isplitl [Hce]; · iexact Hce
    isplitl [Hae]; · iexact Hae
    iexact HO
  iintro ⟨Hae, Hs, HO⟩
  rw [wp_bind]
  iapply (wp_first A c) $$ [Hx Hw Hp]
  · isplitl [Hx]; · iexact Hx
    isplitl [Hw]; · iexact Hw
    iexact Hp
  iintro ⟨Hx, Hw, Hp⟩
  ihave Hs := (show iprop(records A K ∗ bigSep Finset.univ fun p => slotAny (F := F) p c) ⊢ every (fun q => slotFree (F := F) c q 0) from by
      unfold every
      rw [bigSep_univ_eq_bigSepL all16 univ_all16 nodup_all16]
      unfold slotFree
      rw [bigSepL_sep]
      iintro ⟨#HR, H⟩
      isplitl [H]; · iexact H
      iapply (records_every A K 1 c all16); iexact HR) $$ [Hs]
  · isplitr; · iexact HR
    iexact Hs
  iapply (wp_sendParts A K c 0 (by decide) all16 nodup_all16 rest) $$ [Htr Hp Hs Hg Hp3 Hp0 HO]
  · isplitr; · iexact HR
    isplitl [Htr Hp Hs Hg Hp3 Hp0]
    · isplitl [Htr]; · iexact Htr
      isplitl [Hp]; · iexact Hp
      isplitl [Hs]; · iexact Hs
      isplitl [Hg]; · iexact Hg
      isplitl [Hp3]; · iexact Hp3
      iexact Hp0
    iexact HO
  iintro ⟨⟨Hc0, Hp3, Hp0⟩, HO⟩
  rw [wp_bind]
  iapply (wp_collect A K c 0 (by decide) rest hrest) $$ [Hc1 Hp1 Hc0 Hp0 HO]
  · isplitr; · iexact HR
    isplitl [Hc1 Hp1 Hc0 Hp0]
    · isplitl [Hc1]; · iexact Hc1
      isplitl [Hp1]; · iexact Hp1
      isplitl [Hc0]; · iexact Hc0
      iexact Hp0
    iexact HO
  iintro ⟨⟨Hp1, Hs, Hf, Hp0, Hrows⟩, HO⟩
  iapply (wp_reduce A c 0) $$ [Hs Hc]
  · isplitl [Hs]; · iexact Hs
    iexact Hc
  iintro ⟨Hs, Hc⟩
  iapply Hk
  isplitr [HO]
  · isplitr [Hae Hx Hw]
    · isplitl [Hp1]; · iexact Hp1
      isplitl [Hs]; · iexact Hs
      isplitl [Hf]; · iexact Hf
      isplitl [Hp0]; · iexact Hp0
      isplitl [Hrows]; · iexact Hrows
      isplitl [Hp2]; · iexact Hp2
      isplitl [Hc]; · iexact Hc
      iexact Hp3
    · isplitl [Hae]; · iexact Hae
      isplitl [Hx]; · iexact Hx
      iexact Hw
  · iexact HO

/-- The last layer. -/
theorem wp_closing (Q : PUnit → sProp 𝕄) :
    iprop(records A K ∗ (before A c 2 ∗ every (dutyChunk 2 c) ∗ every (credAt 3 2 c) ∗ held c wout2M (A.wout 2 c) ∗ ∃ f, held c outM f)
        ∗ debt c (all16.map (.chunk 2) ++ []))
      ⊢ iprop(((places c 3 ∗ scratch c ∗ held c wout2M (A.wout 2 c) ∗ held c outM (result A c)) ∗ debt c [] -∗ Q ⟨⟩) -∗ wpC c (closing c) Q) := by
  unfold closing before places scratch
  iintro ⟨#HR, ⟨⟨Hp1, Hs, Hf, Hp0, Hp, Hp2, Hc, Hp3⟩, Htc, Hc3, Hw, Hout⟩, HO⟩ Hk
  rw [wpC, wp_bind]
  iapply (wp_sendReds A K c 2 (by decide) []) $$ [Htc Hc Hf Hp2 Hp1 HO]
  · isplitr; · iexact HR
    isplitl [Htc Hc Hf Hp2 Hp1]
    · isplitl [Htc]; · iexact Htc
      isplitl [Hc]; · iexact Hc
      isplitl [Hf]; · iexact Hf
      isplitr
      · unfold slotsGiven; rw [if_neg (by decide)]; iempintro
      isplitl [Hp2]; · iexact Hp2
      iexact Hp1
    iexact HO
  iintro ⟨⟨Hc2, Hp2, Hp1⟩, HO⟩
  rw [wp_bind]
  iapply (wp_takeReds A K c 2 (by decide) all16 nodup_all16 [] (by simp)) $$ [Hc3 Hp3 HO]
  · isplitr; · iexact HR
    isplitl [Hc3 Hp3]
    · isplitl [Hc3]; · iexact Hc3
      iexact Hp3
    iexact HO
  iintro ⟨⟨Hp3, Hg, -⟩, HO⟩
  rw [wp_bind]
  iapply (wp_last A c) $$ [Hg Hw Hout]
  · isplitl [Hg]; · iexact Hg
    isplitl [Hw]; · iexact Hw
    iexact Hout
  iintro ⟨Hg, Hw, Hout⟩
  iapply (wp_doneReds A K c 2 (by decide) [] (by simp)) $$ [Hc2 Hp2 HO]
  · isplitr; · iexact HR
    isplitl [Hc2 Hp2]
    · isplitl [Hc2]; · iexact Hc2
      iexact Hp2
    iexact HO
  iintro ⟨⟨Hp2, Hc⟩, HO⟩
  iapply Hk
  isplitr [HO]
  · isplitl [Hp0 Hp1 Hp2 Hp3]
    · isplitl [Hp0]; · iexact Hp0
      isplitl [Hp1]; · iexact Hp1
      isplitl [Hp2]; · iexact Hp2
      iexact Hp3
    isplitl [Hp Hs Hg Hc]
    · isplitl [Hp]; · iexists part A 2 c; iexact Hp
      isplitl [Hs]; · iexists slots A 2 c; iexact Hs
      isplitl [Hg]; · iexists act A 2; iexact Hg
      iexists red A 2 c; iexact Hc
    isplitl [Hw]; · iexact Hw
    iexact Hout
  · iexact HO

/-- The body is these pieces one after the other. -/
theorem bodyOn_eq : bodyOn (F := F) c = (start c >>= fun _ => middle c wout0M win1M >>= fun _ => turn c >>= fun _ =>
    middle c wout1M win2M >>= fun _ => turn c >>= fun _ => closing c) := by
  unfold bodyOn start turn
  simp only [bind_assoc]

/-- The staging buffers before the body: the inputs' blocks, the result's at anything; -/
def stagingIn : sProp 𝕄 :=
  iprop(held c xM (A.x c) ∗ held c win0M (A.win 0 c) ∗ held c wout0M (A.wout 0 c) ∗ held c win1M (A.win 1 c) ∗ held c wout1M (A.wout 1 c)
    ∗ held c win2M (A.win 2 c) ∗ held c wout2M (A.wout 2 c) ∗ ∃ f, held c outM f)
/-- and after it. -/
def stagingOut : sProp 𝕄 :=
  iprop(held c xM (A.x c) ∗ held c win0M (A.win 0 c) ∗ held c wout0M (A.wout 0 c) ∗ held c win1M (A.win 1 c) ∗ held c wout1M (A.wout 1 c)
    ∗ held c win2M (A.win 2 c) ∗ held c wout2M (A.wout 2 c) ∗ held c outM (result A c))

/-- The whole body: from the start of the protocol and the inputs in the staging buffers to the result. -/
theorem wp_bodyOn (Q : PUnit → sProp 𝕄) :
    iprop(records A K ∗ (entryPart c ∗ scratch c ∗ places c 0 ∗ layerPart c 0 ∗ layerPart c 1 ∗ layerPart c 2 ∗ stagingIn A c) ∗ debt c owed1)
      ⊢ iprop(((places c 3 ∗ atPos ER (cell c none) 1 ∅ 0 ∗ scratch c ∗ stagingOut A c) ∗ debt c [] -∗ Q ⟨⟩) -∗ wpC c (bodyOn c) Q) := by
  rw [bodyOn_eq]
  unfold layerPart stagingIn stagingOut
  iintro ⟨#HR, ⟨He, Hsc, Hpl, ⟨Hr0, Hk0, H10, H30⟩, ⟨Hr1, Hk1, H11, H31⟩, ⟨Hr2, Hk2, H12, H32⟩, ⟨Hx, Hi0, Ho0, Hi1, Ho1, Hi2, Ho2, Hout⟩⟩, HO⟩ Hk
  rw [wpC, wp_bind]
  iapply (wp_start A K c owed3 (by decide) (by decide)) $$ [He Hsc Hpl Hr0 H10 Hx Hi0 HO]
  · isplitr; · iexact HR
    isplitr [HO]
    · isplitl [He]; · iexact He
      isplitl [Hsc]; · iexact Hsc
      isplitl [Hpl]; · iexact Hpl
      isplitl [Hr0]; · iexact Hr0
      isplitl [H10]; · iexact H10
      isplitl [Hx]; · iexact Hx
      iexact Hi0
    · iexact HO
  iintro ⟨⟨Hb, Hae, Hx, Hi0⟩, HO⟩
  rw [wp_bind]
  iapply (wp_middle A K c 0 (by decide) wout0M win1M (A.wout 0 c) (A.win 1 c) (Memref.readAt_unit_zero (Elt F) cc0_stg2_0 hz2 _ _)
      (Memref.readAt_unit_zero (Elt F) cc0_stg3_0 hz2 _ _) owed6 (by decide) (by decide)) $$ [Hb Hk0 H30 Hr1 Ho0 Hi1 HO]
  · isplitr; · iexact HR
    isplitr [HO]
    · isplitl [Hb]; · iexact Hb
      isplitl [Hk0]; · iexact Hk0
      isplitl [H30]; · iexact H30
      isplitl [Hr1]; · iexact Hr1
      unfold weights
      isplitl [Ho0]; · iexact Ho0
      iexact Hi1
    · iexact HO
  unfold weights
  iintro ⟨⟨Ha, ⟨Ho0, Hi1⟩⟩, HO⟩
  rw [wp_bind]
  iapply (wp_turn A K c 0 (by decide) owed6 (by decide)) $$ [Ha H11 HO]
  · isplitr; · iexact HR
    isplitr [HO]
    · isplitl [Ha]; · iexact Ha
      iexact H11
    · iexact HO
  iintro ⟨Hb, HO⟩
  rw [wp_bind]
  iapply (wp_middle A K c 1 (by decide) wout1M win2M (A.wout 1 c) (A.win 2 c) (Memref.readAt_unit_zero (Elt F) cc0_stg4_0 hz2 _ _)
      (Memref.readAt_unit_zero (Elt F) cc0_stg5_0 hz2 _ _) owed9 (by decide) (by decide)) $$ [Hb Hk1 H31 Hr2 Ho1 Hi2 HO]
  · isplitr; · iexact HR
    isplitr [HO]
    · isplitl [Hb]; · iexact Hb
      isplitl [Hk1]; · iexact Hk1
      isplitl [H31]; · iexact H31
      isplitl [Hr2]; · iexact Hr2
      unfold weights
      isplitl [Ho1]; · iexact Ho1
      iexact Hi2
    · iexact HO
  unfold weights
  iintro ⟨⟨Ha, ⟨Ho1, Hi2⟩⟩, HO⟩
  rw [wp_bind]
  iapply (wp_turn A K c 1 (by decide) owed9 (by decide)) $$ [Ha H12 HO]
  · isplitr; · iexact HR
    isplitr [HO]
    · isplitl [Ha]; · iexact Ha
      iexact H12
    · iexact HO
  iintro ⟨Hb, HO⟩
  iapply (wp_closing A K c) $$ [Hb Hk2 H32 Ho2 Hout HO]
  · isplitr; · iexact HR
    isplitr [HO]
    · isplitl [Hb]; · iexact Hb
      isplitl [Hk2]; · iexact Hk2
      isplitl [H32]; · iexact H32
      isplitl [Ho2]; · iexact Ho2
      iexact Hout
    · rw [List.append_nil]; iexact HO
  iintro ⟨⟨Hpl, Hsc, Ho2, Hout⟩, HO⟩
  iapply Hk
  isplitr [HO]
  · isplitl [Hpl]; · iexact Hpl
    isplitl [Hae]; · iexact Hae
    isplitl [Hsc]; · iexact Hsc
    isplitl [Hx]; · iexact Hx
    isplitl [Hi0]; · iexact Hi0
    isplitl [Ho0]; · iexact Ho0
    isplitl [Hi1]; · iexact Hi1
    isplitl [Ho1]; · iexact Ho1
    isplitl [Hi2]; · iexact Hi2
    isplitl [Ho2]; · iexact Ho2
    iexact Hout
  · iexact HO

end Cert.Proof

end
-- ==== Proof.Body.lean ====
/-
  The pipeline's one point. What the launch must deal each device before the body (`Φ₀`), what is given
  back after it (`Φ₁`: the scratch buffers and every cell closed at zero), the proof data of the pipeline
  and its body obligation, from the body's own rule.
-/
module

public import proofs.«01_k».proof.Proof.Layers
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ)

/-- What every device's staging buffers hold when the body starts: its arrays, read through the windows' one block. -/
def inp : Inputs F where
  x c := (win0_0.blk t0_0).view.read (Elt F) (m ((c : Thread nD τ).loc main_arg0))
  win r c := match r with
    | 0 => (win0_1.blk t0_0).view.read (Elt F) (m ((c : Thread nD τ).loc main_arg1))
    | 1 => (win0_3.blk t0_0).view.read (Elt F) (m ((c : Thread nD τ).loc main_arg2))
    | _ => (win0_5.blk t0_0).view.read (Elt F) (m ((c : Thread nD τ).loc main_arg3))
  wout r c := match r with
    | 0 => (win0_2.blk t0_0).view.read (Elt F) (m ((c : Thread nD τ).loc main_arg4))
    | 1 => (win0_4.blk t0_0).view.read (Elt F) (m ((c : Thread nD τ).loc main_arg5))
    | _ => (win0_6.blk t0_0).view.read (Elt F) (m ((c : Thread nD τ).loc main_arg6))

/-! ## Before and after the point -/

/-- A piece for every cell of a device, listed. -/
theorem bigSep_own (Φ : Own → sProp 𝕄) :
    bigSep Finset.univ Φ = iprop(Φ none ∗ (every fun q => Φ (some (0, q))) ∗ (every fun q => Φ (some (1, q))) ∗ (every fun q => Φ (some (2, q)))
      ∗ every fun q => Φ (some (3, q))) := by
  have h16 (Ψ : Fin 16 → sProp 𝕄) : bigSep Finset.univ Ψ = every Ψ := bigSep_univ_eq_bigSepL all16 univ_all16 nodup_all16 Ψ
  rw [bigSep_univ_equiv (Equiv.optionEquivSumPUnit (Fin 4 × Fin 16) : Own ≃ (Fin 4 × Fin 16) ⊕ PUnit.{1}).symm Φ, bigSep_univ_sum, bigSep_univ_prod,
    bigSep_univ_eq_bigSepL [(0 : Fin 4), 1, 2, 3] (by decide) (by decide)]
  simp only [h16]
  rw [show (Finset.univ : Finset PUnit.{1}) = {⟨⟩} from rfl, bigSep_singleton]
  exact BI.Entails.antisymm BI.sep_comm BI.sep_comm

/-- What a device's part of the protocol starts from: the records, its duties, its credits, its places. -/
def begin (A : Inputs F) (c : Dev nD) : sProp 𝕄 :=
  iprop((∃ K, records A K) ∗ entryPart c ∗ places c 0 ∗ layerPart c 0 ∗ layerPart c 1 ∗ layerPart c 2)

/-- Before the body: that, and the scratch buffers at anything. -/
def Φ₀ (A : Inputs F) (c : Dev nD) : sProp 𝕄 := iprop(begin A c ∗ scratch c)
/-- After it: every cell at zero, the scratch buffers at anything. -/
def Φ₁ (c : Dev nD) : sProp 𝕄 := iprop(Pipeline.ownSems0 osem c ∗ scratch (F := F) c)

/-- The proof data of the pipeline on device `c`: the arrays at their launch contents; after the body the inputs' staging
    buffers as fetched and the result's at the result; every debt before, none after. -/
def dats (_ : Fin 1) (c : Dev nD) : Dat τ (Elt F) ℕ ℕ UU ℕ cfg0 c where
  A w := m ((cfg0.win w).arr.view.loc (c : Thread nD τ))
  after w _ := match w with
    | ⟨0, _⟩ => (inp m).x c
    | ⟨1, _⟩ => (inp m).win 0 c
    | ⟨2, _⟩ => (inp m).wout 0 c
    | ⟨3, _⟩ => (inp m).win 1 c
    | ⟨4, _⟩ => (inp m).wout 1 c
    | ⟨5, _⟩ => (inp m).win 2 c
    | ⟨6, _⟩ => (inp m).wout 2 c
    | ⟨7, _⟩ => result (inp m) c
  Φ t := match t with
    | ⟨0, _⟩ => Φ₀ (inp m) c
    | ⟨_ + 1, _⟩ => Φ₁ c
  q _ := fullShare
  owed t := match t with
    | ⟨0, _⟩ => owing c owed1
    | ⟨_ + 1, _⟩ => 0

/-! ## The cells close -/

variable (A : Inputs F) (K : Dev nD × Own → ℕ)

/-- A cell whose three rounds are over closes, -/
theorem close_copy (c : Dev nD) (k : Fin 4) (q : Fin 16) :
    iprop(records A K ∗ pos k 3 c q) ⊢ |={Set.univ}=> (semVal (cell c (some (k, q))) 0 : sProp 𝕄) := by
  unfold pos
  iintro ⟨#HR, ⟨Ha, -⟩⟩
  ihave #HI := (records_inv A K c (some (k, q))) $$ HR
  imod (Rounds.cell_close ER (sched A) (Set.mem_univ (K (c, some (k, q)))) (fun h => h) (R := 3) (duties_copy_later A c k q)) $$ [Ha] with Hz
  · isplitr; · iexact HI
    iexact Ha
  imodintro; iexact Hz

/-- and so do all of one kind, -/
theorem close_every (c : Dev nD) (k : Fin 4) :
    iprop(records A K ∗ every (pos k 3 c)) ⊢ |={Set.univ}=> (every fun q => (semVal (cell c (some (k, q))) 0 : sProp 𝕄)) := by
  suffices h : ∀ l : List (Fin 16), iprop(records A K ∗ bigSepL l (pos k 3 c)) ⊢ |={Set.univ}=> (bigSepL l fun q => (semVal (cell c (some (k, q))) 0 : sProp 𝕄)) from h all16
  intro l
  induction l with
  | nil => iintro ⟨-, H⟩; imodintro; iexact H
  | cons q l ih =>
    rw [bigSepL_cons', bigSepL_cons']
    iintro ⟨#HR, ⟨Hq, Hl⟩⟩
    imod (close_copy A K c k q) $$ [Hq] with Hq
    · isplitr; · iexact HR
      iexact Hq
    imod ih $$ [Hl] with Hl
    · isplitr; · iexact HR
      iexact Hl
    imodintro
    isplitl [Hq]; · iexact Hq
    iexact Hl

/-- and with the entry cell all of the device's. -/
theorem close_all (c : Dev nD) :
    iprop(records A K ∗ places c 3 ∗ atPos ER (cell c none) 1 ∅ 0) ⊢ |={Set.univ}=> (Pipeline.ownSems0 osem c : sProp 𝕄) := by
  unfold places Pipeline.ownSems0
  rw [bigSep_own]
  iintro ⟨#HR, ⟨H0, H1, H2, H3⟩, He⟩
  ihave #HI := (records_inv A K c none) $$ HR
  imod (Rounds.cell_close ER (sched A) (Set.mem_univ (K (c, none))) (fun h => h) (R := 1) (duties_entry_later A c)) $$ [He] with Hz
  · isplitr; · iexact HI
    iexact He
  imod (close_every A K c 0) $$ [H0] with H0
  · isplitr; · iexact HR
    iexact H0
  imod (close_every A K c 1) $$ [H1] with H1
  · isplitr; · iexact HR
    iexact H1
  imod (close_every A K c 2) $$ [H2] with H2
  · isplitr; · iexact HR
    iexact H2
  imod (close_every A K c 3) $$ [H3] with H3
  · isplitr; · iexact HR
    iexact H3
  imodintro
  isplitl [Hz]; · iexact Hz
  isplitl [H0]; · iexact H0
  isplitl [H1]; · iexact H1
  isplitl [H2]; · iexact H2
  iexact H3

/-! ## The body obligation -/

/-- The body run between the two. -/
theorem wp_body (c : Dev nD) (Q : PUnit → sProp 𝕄) :
    iprop((Φ₀ A c ∗ stagingIn A c) ∗ debt c owed1)
      ⊢ iprop(((Φ₁ c ∗ stagingOut A c) ∗ debt c [] -∗ Q ⟨⟩) -∗ wpC c (Prog.op .deviceId bodyOn) Q) := by
  unfold Φ₀ begin Φ₁
  rw [wpC, wp_deviceId]
  iintro ⟨⟨⟨⟨⟨%K, #HR⟩, He, Hp, H0, H1, H2⟩, Hs⟩, Hst⟩, HO⟩ Hk
  have h := @wp_bodyOn F _ A K c fun x => iprop(|={Set.univ}=> Q x)
  iapply (wp_fupd _ _ _ (bodyOn c) Q)
  iapply h $$ [He Hp H0 H1 H2 Hs Hst HO]
  · isplitr; · iexact HR
    isplitr [HO]
    · isplitl [He]; · iexact He
      isplitl [Hs]; · iexact Hs
      isplitl [Hp]; · iexact Hp
      isplitl [H0]; · iexact H0
      isplitl [H1]; · iexact H1
      isplitl [H2]; · iexact H2
      iexact Hst
    · iexact HO
  iintro ⟨⟨Hp, He, Hs, Hst⟩, HO⟩
  imod (close_all A K c) $$ [Hp He] with Hz
  · isplitr; · iexact HR
    isplitl [Hp]; · iexact Hp
    iexact He
  imodintro
  iapply Hk
  isplitr [HO]
  · isplitr [Hst]
    · isplitl [Hz]; · iexact Hz
      iexact Hs
    · iexact Hst
  · iexact HO

/-- A staging buffer at contents equal to `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- What the pipeline calls the body with: the staging buffers at what was fetched, the result's at anything. -/
def bodyPre (c : Dev nD) : sProp 𝕄 :=
  iprop(Φ₀ (inp m) c ∗ (dats m 0 c).owesAt 0 t0_0.castSucc
    ∗ (∃ d, stg c cc0_stg0_0 ((dats m 0 c).before (0 : Fin 8) t0_0 d)) ∗ (∃ d, stg c cc0_stg1_0 ((dats m 0 c).before (1 : Fin 8) t0_0 d))
    ∗ (∃ d, stg c cc0_stg2_0 ((dats m 0 c).before (2 : Fin 8) t0_0 d)) ∗ (∃ d, stg c cc0_stg3_0 ((dats m 0 c).before (3 : Fin 8) t0_0 d))
    ∗ (∃ d, stg c cc0_stg4_0 ((dats m 0 c).before (4 : Fin 8) t0_0 d)) ∗ (∃ d, stg c cc0_stg5_0 ((dats m 0 c).before (5 : Fin 8) t0_0 d))
    ∗ (∃ d, stg c cc0_stg6_0 ((dats m 0 c).before (6 : Fin 8) t0_0 d)) ∗ (∃ d, stg c cc0_stg7_0 ((dats m 0 c).before (7 : Fin 8) t0_0 d)))

/-- What it expects back. -/
def bodyPost (c : Dev nD) : sProp 𝕄 :=
  iprop(Φ₁ c ∗ (dats m 0 c).owesAt 0 t0_0.succ
    ∗ stg c cc0_stg0_0 ((inp m).x c) ∗ stg c cc0_stg1_0 ((inp m).win 0 c) ∗ stg c cc0_stg2_0 ((inp m).wout 0 c) ∗ stg c cc0_stg3_0 ((inp m).win 1 c)
    ∗ stg c cc0_stg4_0 ((inp m).wout 1 c) ∗ stg c cc0_stg5_0 ((inp m).win 2 c) ∗ stg c cc0_stg6_0 ((inp m).wout 2 c) ∗ stg c cc0_stg7_0 (result (inp m) c))

omit [FloatOps F] in
/-- A buffer at contents equal to what is said is held at it; -/
theorem stg_held (c : Dev nD) (b : Ref sig .tc) (X Y : b.ty.Contents (Elt F)) (h : X = Y) :
    stg c b X ⊢ (((c : Thread nD τ).loc b) ↦{fullShare} Y : sProp 𝕄) := by
  subst h
  iintro ⟨%f, %hf, H⟩
  subst hf
  iexact H
omit [FloatOps F] in
/-- and conversely. -/
theorem held_stg (c : Dev nD) (b : Ref sig .tc) (X : b.ty.Contents (Elt F)) : (((c : Thread nD τ).loc b) ↦{fullShare} X : sProp 𝕄) ⊢ stg c b X := by
  iintro H
  iexists X; isplitr; · ipureintro; rfl
  iexact H

/-- A fetched window's staging buffer holds the block read from its array. -/
theorem before_fetched (c : Dev nD) (w : Fin 8) (hw : (cfg0.win w).fetch t0_0 = true) (d : (cfg0.win w).block.Idx → Elt F (cfg0.win w).elt) :
    (dats m 0 c).before w t0_0 d = (dats m 0 c).fetched w t0_0 d := by
  unfold Dat.before; rw [if_pos hw]

/-- The staging buffers the pipeline hands over are those the body starts from, -/
theorem staging_in (c : Dev nD) :
    iprop((∃ d, stg c cc0_stg0_0 ((dats m 0 c).before (0 : Fin 8) t0_0 d)) ∗ (∃ d, stg c cc0_stg1_0 ((dats m 0 c).before (1 : Fin 8) t0_0 d))
      ∗ (∃ d, stg c cc0_stg2_0 ((dats m 0 c).before (2 : Fin 8) t0_0 d)) ∗ (∃ d, stg c cc0_stg3_0 ((dats m 0 c).before (3 : Fin 8) t0_0 d))
      ∗ (∃ d, stg c cc0_stg4_0 ((dats m 0 c).before (4 : Fin 8) t0_0 d)) ∗ (∃ d, stg c cc0_stg5_0 ((dats m 0 c).before (5 : Fin 8) t0_0 d))
      ∗ (∃ d, stg c cc0_stg6_0 ((dats m 0 c).before (6 : Fin 8) t0_0 d)) ∗ (∃ d, stg c cc0_stg7_0 ((dats m 0 c).before (7 : Fin 8) t0_0 d)))
    ⊢ stagingIn (inp m) c := by
  unfold stagingIn held
  iintro ⟨⟨%d0, H0⟩, ⟨%d1, H1⟩, ⟨%d2, H2⟩, ⟨%d3, H3⟩, ⟨%d4, H4⟩, ⟨%d5, H5⟩, ⟨%d6, H6⟩, ⟨%d7, ⟨%f, -, H7⟩⟩⟩
  isplitl [H0]; · iapply (stg_held c cc0_stg0_0 _ ((inp m).x c) (before_fetched m c 0 (fetch0_0 _) d0)); iexact H0
  isplitl [H1]; · iapply (stg_held c cc0_stg1_0 _ ((inp m).win 0 c) (before_fetched m c 1 (fetch0_1 _) d1)); iexact H1
  isplitl [H2]; · iapply (stg_held c cc0_stg2_0 _ ((inp m).wout 0 c) (before_fetched m c 2 (fetch0_2 _) d2)); iexact H2
  isplitl [H3]; · iapply (stg_held c cc0_stg3_0 _ ((inp m).win 1 c) (before_fetched m c 3 (fetch0_3 _) d3)); iexact H3
  isplitl [H4]; · iapply (stg_held c cc0_stg4_0 _ ((inp m).wout 1 c) (before_fetched m c 4 (fetch0_4 _) d4)); iexact H4
  isplitl [H5]; · iapply (stg_held c cc0_stg5_0 _ ((inp m).win 2 c) (before_fetched m c 5 (fetch0_5 _) d5)); iexact H5
  isplitl [H6]; · iapply (stg_held c cc0_stg6_0 _ ((inp m).wout 2 c) (before_fetched m c 6 (fetch0_6 _) d6)); iexact H6
  iexists f; iexact H7

/-- and those it leaves are those the pipeline takes back. -/
theorem staging_out (c : Dev nD) :
    stagingOut (inp m) c ⊢ iprop(stg c cc0_stg0_0 ((inp m).x c) ∗ stg c cc0_stg1_0 ((inp m).win 0 c) ∗ stg c cc0_stg2_0 ((inp m).wout 0 c)
      ∗ stg c cc0_stg3_0 ((inp m).win 1 c) ∗ stg c cc0_stg4_0 ((inp m).wout 1 c) ∗ stg c cc0_stg5_0 ((inp m).win 2 c)
      ∗ stg c cc0_stg6_0 ((inp m).wout 2 c) ∗ stg c cc0_stg7_0 (result (inp m) c)) := by
  unfold stagingOut held
  iintro ⟨H0, H1, H2, H3, H4, H5, H6, H7⟩
  isplitl [H0]; · iapply (held_stg c cc0_stg0_0); iexact H0
  isplitl [H1]; · iapply (held_stg c cc0_stg1_0); iexact H1
  isplitl [H2]; · iapply (held_stg c cc0_stg2_0); iexact H2
  isplitl [H3]; · iapply (held_stg c cc0_stg3_0); iexact H3
  isplitl [H4]; · iapply (held_stg c cc0_stg4_0); iexact H4
  isplitl [H5]; · iapply (held_stg c cc0_stg5_0); iexact H5
  isplitl [H6]; · iapply (held_stg c cc0_stg6_0); iexact H6
  iapply (held_stg c cc0_stg7_0); iexact H7

/-- The body between what the pipeline hands over and what it takes back. -/
theorem sound_body (c : Dev nD) : bodyPre m c ⊢ wpC c (Prog.op .deviceId bodyOn) fun _ => bodyPost m c := by
  unfold bodyPre Dat.owesAt Pipeline.owesWithin
  rw [show (dats m 0 c).owed t0_0.castSucc = owing c owed1 from rfl]
  iintro ⟨Hp, ⟨%W, -, HO⟩, Hst⟩
  ihave Hst := (staging_in m c) $$ Hst
  have h := @wp_body F _ (inp m) c fun _ => bodyPost m c
  iapply h $$ [Hp Hst HO]
  · isplitr [HO]
    · isplitl [Hp]; · iexact Hp
      iexact Hst
    · unfold debt; iexists W; iexact HO
  unfold bodyPost debt Dat.owesAt Pipeline.owesWithin
  rw [show (dats m 0 c).owed t0_0.succ = owing c [] from rfl]
  iintro ⟨⟨Hp, Hst⟩, ⟨%W', HO⟩⟩
  ihave Hst := (staging_out m c) $$ Hst
  isplitl [Hp]; · iexact Hp
  isplitl [HO]
  · iexists W'; isplitr; · ipureintro; exact fun _ _ => Or.inl trivial
    iexact HO
  iexact Hst

set_option maxRecDepth 100000 in
/-- The body obligation. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ wpC c (cc0_body (F := F) xM (Memref.isWhole_whole _) win0M (Memref.isWhole_whole _) wout0M (Memref.isWhole_whole _) win1M
    (Memref.isWhole_whole _) wout1M (Memref.isWhole_whole _) win2M (Memref.isWhole_whole _) wout2M (Memref.isWhole_whole _) outM (Memref.isWhole_whole _)
    partM (Memref.isWhole_whole _) slotM (Memref.isWhole_whole _) actM (Memref.isWhole_whole _) redM (Memref.isWhole_whole _)
    cc0_scratch4 cc0_scratch5 cc0_scratch6 cc0_scratch7 cc0_scratch8) fun _ => bodyPost m c
  rw [body_eq]
  exact sound_body m c

end Cert.Proof

end
-- ==== Proof.Credits.lean ====
/-
  The credit dealt at launch: what all devices owe, summed over the devices, is for each device what its
  own cells wait for — sixteen units at its entry cell and one copy a round at each landing cell.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device owes, as a sum -/

theorem owing_append (c : Dev nD) (l l' : List Debt) : owing c (l ++ l') = owing c l + owing c l' := by
  induction l with
  | nil => exact (zero_add _).symm
  | cons d l ih => rw [List.cons_append, owing, owing, ih]; exact add_right_comm _ _ _

theorem owing_map (c : Dev nD) (f : Fin 16 → Debt) (l : List (Fin 16)) (hl : l.Nodup) : owing c (l.map f) = ∑ q ∈ l.toFinset, (f q).tally c := by
  induction l with
  | nil => rfl
  | cons q l ih =>
    obtain ⟨hq, hl⟩ := List.nodup_cons.mp hl
    rw [List.map_cons, owing, ih hl, List.toFinset_cons, Finset.sum_insert (fun h => hq (List.mem_toFinset.mp h)), add_comm]

theorem owing_all (c : Dev nD) (f : Fin 16 → Debt) : owing c (all16.map f) = ∑ q, (f q).tally c := by
  rw [owing_map c f all16 nodup_all16, ← univ_all16]

theorem owing_halves (c : Dev nD) (f : Fin 16 → Debt) (l : List Debt) : owing c (low8.map f ++ (high8.map f ++ l)) = ∑ q, (f q).tally c + owing c l := by
  rw [← List.append_assoc, ← List.map_append, owing_append]; congr 1; exact owing_all c f

/-- The rows and the chunk of layer `r` a device owes everyone. -/
def layerOwed (r : ℕ) (d : Dev nD) : CellTallies nD τ sig ℕ :=
  ∑ q : Fin 16, tallyAt (cell q (some (1, d))) r N + ∑ q : Fin 16, tallyAt (cell q (some (3, d))) r N

/-- All a device owes at the start. -/
theorem owing_start (d : Dev nD) : owing d owed1 = ∑ q : Fin 16, tallyAt (cell q none) 0 1 + (layerOwed 0 d + (layerOwed 1 d + layerOwed 2 d)) := by
  unfold layerOwed
  rw [owed1, owing_append, owed2, owing_append, owed3, owing_append, owed4, owed5, owing_halves, owed6, owing_append, owed7, owed8, owing_halves,
    owed9, owing_all, owing_all, owing_all, owing_all, owing_all]
  simp only [Debt.tally, Debt.cell, Debt.round, Debt.units, add_assoc]

/-! ## What a device's cells wait for -/

/-- The copies a device's landing cells wait for in layer `r`. -/
def layerDue (r : ℕ) (c : Dev nD) : CellTallies nD τ sig ℕ :=
  ∑ q : Fin 16, tallyAt (cell c (some (1, q))) r N + ∑ q : Fin 16, tallyAt (cell c (some (3, q))) r N

/-- All a device's cells wait for. -/
def due (c : Dev nD) : CellTallies nD τ sig ℕ :=
  ∑ _d : Fin 16, tallyAt (cell c none) 0 1 + (layerDue 0 c + (layerDue 1 c + layerDue 2 c))

theorem layer_sum (r : ℕ) : (∑ d : Dev nD, layerOwed r d) = ∑ c : Dev nD, layerDue r c := by
  unfold layerOwed layerDue
  rw [Finset.sum_add_distrib, Finset.sum_add_distrib]
  exact congrArg₂ _ Finset.sum_comm Finset.sum_comm

/-- The debts and the dues are the same, summed over the devices. -/
theorem due_sum : (∑ d : Dev nD, owing d owed1) = ∑ c : Dev nD, due c := by
  unfold due
  simp only [owing_start, Finset.sum_add_distrib, layer_sum]
  exact congrArg (· + _) Finset.sum_comm

theorem sum_at {c : Dev nD} {g : GSem nD τ sig} {k : Fin 16 → Own} {r : ℕ} {n : ℕ} (h : (∑ q : Fin 16, (tallyAt (cell c (k q)) r n : CellTallies nD τ sig ℕ)) g ≠ 0) :
    g.1 = (c.tc : Thread nD τ) := by
  by_contra hg
  apply h
  rw [Finset.sum_apply]
  exact Finset.sum_eq_zero fun q _ => tallyAt_ne_cell (fun he => hg (congrArg Prod.fst he)) _ _

theorem layerDue_at {r : ℕ} {c : Dev nD} {g : GSem nD τ sig} (h : layerDue r c g ≠ 0) : g.1 = (c.tc : Thread nD τ) := by
  unfold layerDue at h
  rw [Pi.add_apply] at h
  by_contra hg
  refine h ?_
  rw [not_imp_comm.mp sum_at hg, not_imp_comm.mp sum_at hg, add_zero]

/-- A device's dues are at its own cells. -/
theorem due_at (c : Dev nD) (g : GSem nD τ sig) (h : due c g ≠ 0) : g.1 = (c.tc : Thread nD τ) := by
  unfold due at h
  rw [Pi.add_apply, Pi.add_apply, Pi.add_apply] at h
  by_contra hg
  refine h ?_
  rw [not_imp_comm.mp (sum_at (k := fun _ => none)) hg, not_imp_comm.mp layerDue_at hg, not_imp_comm.mp layerDue_at hg, not_imp_comm.mp layerDue_at hg]
  simp only [add_zero]

/-! ## The credit dealt -/

omit [FloatOps F] in
theorem cred_split (a b : CellTallies nD τ sig ℕ) : (cred (a + b) : sProp 𝕄) ⊢ iprop(cred a ∗ cred b) := (cred_add a b).1

theorem cred_every (T : Fin 16 → CellTallies nD τ sig ℕ) : (cred (∑ q, T q) : sProp 𝕄) ⊢ every fun q => cred (T q) := by
  rw [Pipeline.cred_finsetSum]
  exact Entails.of_eq (bigSep_univ_eq_bigSepL all16 univ_all16 nodup_all16 _)

theorem cred_layer (r : ℕ) (c : Dev nD) : (cred (layerDue r c) : sProp 𝕄) ⊢ iprop(every (credAt 1 r c) ∗ every (credAt 3 r c)) := by
  unfold layerDue
  exact (cred_split _ _).trans (BIClass.sep_mono (cred_every _) (cred_every _))

omit [FloatOps F] in
theorem entry_units (c : Dev nD) : (∑ _d : Fin 16, (tallyAt (cell c none) 0 1 : CellTallies nD τ sig ℕ)) = tallyAt (cell c none) 0 16 := by
  simp only [Fin.sum_univ_succ, Fin.sum_univ_zero, tallyAt_add, add_zero]

/-- A device's launch credit: its entry cell's sixteen units, and by layer a copy at every landing cell. -/
theorem launch_creds (c : Dev nD) :
    (Pipeline.launchCred (fun d => owing d owed1) c : sProp 𝕄) ⊢ iprop(cred (tallyAt (cell c none) 0 16)
      ∗ (every (credAt 1 0 c) ∗ every (credAt 3 0 c)) ∗ (every (credAt 1 1 c) ∗ every (credAt 3 1 c)) ∗ (every (credAt 1 2 c) ∗ every (credAt 3 2 c))) := by
  rw [Pipeline.launchCred_of_sum _ due due_sum due_at, due, entry_units]
  exact (cred_split _ _).trans (sep_mono_right ((cred_split _ _).trans (BIClass.sep_mono (cred_layer 0 c)
    ((cred_split _ _).trans (BIClass.sep_mono (cred_layer 1 c) (cred_layer 2 c))))))

end Cert.Proof

end
-- ==== Proof.Launch.lean ====
/-
  The launch. Every device's cells are allocated from their counters at zero, their records copied to all
  devices, and the tokens of their duties carried to the devices that pay them; with the credit and the
  levels this is what the body starts from. Then the run: every fair execution ends with each array at the
  contents the pipeline computes and every counter at zero.
-/
module

public import proofs.«01_k».proof.Proof.Credits
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

theorem ownSemFacts : Pipeline.OwnSemFacts cfg0.spec osem :=
  ⟨by decide, fun _ _ h => osem_inj h, by decide⟩

/-! ## The tokens -/

/-- A token: of an entry cell, one for each device, or of round `r` of another cell. -/
def tokEmb : Fin 16 ⊕ (Fin 3 × Fin 4 × Fin 16) ↪ Own × ℕ × Fin 16 where
  toFun
    | .inl d => (none, 0, d)
    | .inr (r, k, q) => (some (k, q), r.val, 0)
  inj' := by
    rintro (d | ⟨r, k, q⟩) (d' | ⟨r', k', q'⟩) h
    · simp only [Prod.mk.injEq, true_and] at h; rw [h]
    · simp only [Prod.mk.injEq, reduceCtorEq, false_and] at h
    · simp only [Prod.mk.injEq, reduceCtorEq, false_and] at h
    · simp only [Prod.mk.injEq, Option.some.injEq] at h
      obtain ⟨⟨hk, hq⟩, hr, -⟩ := h
      rw [hk, hq, Fin.ext hr]

/-- The duties on each device's own cells. -/
abbrev duties : Dev nD → Finset (Own × ℕ × Fin 16) := fun _ => Finset.univ.map tokEmb

/-- The token of round `r` of cell `(k, q)` of device `c`. -/
abbrev tokAt (k : Fin 4) (r : ℕ) (c : Dev nD) (q : Fin 16) : sProp 𝕄 := dutyTok ER (cell c (some (k, q))) r 0

/-- The tokens of layer `r` of device `c`'s own cells, -/
def layerToks (r : ℕ) (c : Dev nD) : sProp 𝕄 :=
  iprop(bigSep Finset.univ (tokAt 0 r c) ∗ bigSep Finset.univ (tokAt 1 r c) ∗ bigSep Finset.univ (tokAt 2 r c) ∗ bigSep Finset.univ (tokAt 3 r c))
/-- all tokens of its own cells; -/
def toks (c : Dev nD) : sProp 𝕄 :=
  iprop((bigSep Finset.univ fun d : Fin 16 => dutyTok ER (cell c none) 0 d) ∗ layerToks 0 c ∗ layerToks 1 c ∗ layerToks 2 c)

/-- the tokens of layer `r` that device `c` pays with, -/
def layerMine (r : ℕ) (c : Dev nD) : sProp 𝕄 :=
  iprop(bigSep Finset.univ (tokAt 0 r c) ∗ (bigSep Finset.univ fun q => tokAt 1 r q c) ∗ bigSep Finset.univ (tokAt 2 r c) ∗ bigSep Finset.univ fun q => tokAt 3 r q c)
/-- and all of those. -/
def mine (c : Dev nD) : sProp 𝕄 :=
  iprop((bigSep Finset.univ fun q : Fin 16 => dutyTok ER (cell q none) 0 c) ∗ layerMine 0 c ∗ layerMine 1 c ∗ layerMine 2 c)

omit [FloatOps F] in
theorem toks_eq (c : Dev nD) :
    (bigSep (duties c) fun x => (dutyTok ER ((c : Thread nD τ), osem x.1) x.2.1 x.2.2 : sProp 𝕄)) = toks c := by
  unfold toks layerToks duties
  rw [bigSep_map, bigSep_univ_sum, bigSep_univ_prod]
  rw [bigSep_univ_eq_bigSepL [(0 : Fin 3), 1, 2] (by decide) (by decide)]
  simp only [bigSep_univ_prod]
  simp only [bigSep_univ_eq_bigSepL [(0 : Fin 4), 1, 2, 3] (by decide) (by decide)]
  rfl

omit [FloatOps F] in
/-- The tokens of a layer, each carried to the device that pays it; -/
theorem layer_around (r : ℕ) : (bigSep Finset.univ fun c : Dev nD => (layerToks r c : sProp 𝕄)) = bigSep Finset.univ fun c : Dev nD => layerMine r c := by
  unfold layerToks layerMine
  rw [bigSep_sep', bigSep_sep', bigSep_sep', bigSep_sep', bigSep_sep', bigSep_sep']
  rw [bigSep_univ_comm fun c q => (tokAt 1 r c q : sProp 𝕄), bigSep_univ_comm fun c q => (tokAt 3 r c q : sProp 𝕄)]

omit [FloatOps F] in
/-- and all of them. -/
theorem toks_around : (bigSep Finset.univ fun c : Dev nD => (toks c : sProp 𝕄)) = bigSep Finset.univ fun c : Dev nD => mine c := by
  unfold toks mine
  rw [bigSep_sep', bigSep_sep', bigSep_sep', bigSep_sep', bigSep_sep', bigSep_sep', layer_around, layer_around, layer_around,
    bigSep_univ_comm fun c d => (dutyTok ER (cell c none) 0 d : sProp 𝕄)]

/-! ## The cells allocated -/

variable (A : Inputs F)

/-- What the launch element deals device `c`: its cells' states, places and marks, and their tokens. -/
def G (c : Dev nD) : sProp 𝕄 := iprop(Pipeline.ownGhost cfgs (0 : Fin 1) ownSemFacts ER (sched A) c ∗ toks c)

/-- That a device is before round 0 of its cell `k`. -/
abbrev placed (ck : Dev nD × Own) : sProp 𝕄 := atPos ER (cell ck.1 ck.2) 0 ∅ 0
/-- That the cell has reached it. -/
abbrev marked (ck : Dev nD × Own) : sProp 𝕄 := reached ER (cell ck.1 ck.2) 0
/-- The invariants of all cells, and their marks. -/
def shared (K : Dev nD × Own → ℕ) : sProp 𝕄 :=
  iprop((bigSep Finset.univ fun ck : Dev nD × Own => cellInv ER (sched A) (K ck) (cell ck.1 ck.2)) ∗ bigSep Finset.univ marked)

instance shared_persistent (K : Dev nD × Own → ℕ) : BI.Persistent (shared A K) := by unfold shared; infer_instance

/-- What the global step makes of it: the records at some names, the device's places and the tokens it pays with. -/
def G' (c : Dev nD) : sProp 𝕄 := iprop((∃ K, shared A K) ∗ (bigSep Finset.univ fun k : Own => placed (c, k)) ∗ mine c)

theorem core_alloc (c : Dev nD) :
    iprop(Pipeline.ownSems0 osem c ∗ G A c)
      ⊢ |={Set.univ}=> iprop((bigSep Finset.univ fun k => iprop(∃ κ : ℕ, cellInv ER (sched A) κ (cell c k)))
          ∗ (bigSep Finset.univ fun k => iprop(placed (c, k) ∗ marked (c, k))) ∗ toks c) := by
  unfold G
  rw [Pipeline.ownGhost_eq]
  iintro ⟨Hos, ⟨Hst, Hat⟩, Htok⟩
  imod (Pipeline.ownCells_alloc cfgs (0 : Fin 1) ownSemFacts ER (sched A) c) $$ [Hos Hst] with Hinv
  · isplitl [Hos]; · iexact Hos
    iexact Hst
  imodintro
  isplitl [Hinv]; · iexact Hinv
  isplitl [Hat]; · iexact Hat
  iexact Htok

/-- The pieces of all devices regrouped. -/
theorem regroup :
    (bigSep Finset.univ fun c : Dev nD => iprop((bigSep Finset.univ fun k => iprop(∃ κ : ℕ, cellInv ER (sched A) κ (cell c k)))
          ∗ (bigSep Finset.univ fun k => iprop(placed (c, k) ∗ marked (c, k))) ∗ toks c) : sProp 𝕄)
      ⊢ bigSep Finset.univ (G' A) := by
  rw [bigSep_sep', bigSep_sep', ← bigSep_univ_prod (fun ck : Dev nD × Own => iprop(∃ κ : ℕ, cellInv ER (sched A) κ (cell ck.1 ck.2))),
    bigSep_congr (s := Finset.univ) (fun (c : Dev nD) _ => bigSep_sep' Finset.univ (fun k : Own => (placed (c, k) : sProp 𝕄)) (fun k => marked (c, k))),
    bigSep_sep', ← bigSep_univ_prod (fun ck : Dev nD × Own => (marked ck : sProp 𝕄)), toks_around]
  unfold G'
  rw [bigSep_sep', bigSep_sep']
  iintro ⟨HI, ⟨Hat, #HR⟩, Htok⟩
  ihave HK := (BI.bigSep_exists_pi Finset.univ (fun (ck : Dev nD × Own) (κ : ℕ) => (cellInv ER (sched A) κ (cell ck.1 ck.2) : sProp 𝕄))) $$ HI
  icases HK with ⟨%K, #HI⟩
  isplitr
  · iapply (BI.bigSep_of_persistent Finset.univ (iprop(∃ K, shared A K)))
    iexists K
    unfold shared
    isplitl; · iexact HI
    iexact HR
  isplitl [Hat]; · iexact Hat
  iexact Htok

/-- The global step. -/
theorem glob : (bigSep Finset.univ fun c => iprop(Pipeline.ownSems0 osem c ∗ G A c) : sProp 𝕄) ⊢ |={Set.univ}=> bigSep Finset.univ (G' A) :=
  ((bigSep_mono fun c _ => core_alloc A c).trans (bigSep_fupd _ _)).trans (BI.fupd_mono (regroup A))

/-! ## What the body starts from -/

omit [FloatOps F] in
/-- A piece for every device, listed. -/
theorem every_eq (Φ : Fin 16 → sProp 𝕄) : bigSep Finset.univ Φ = every Φ := bigSep_univ_eq_bigSepL all16 univ_all16 nodup_all16 Φ

theorem every_sep (Φ Ψ : Fin 16 → sProp 𝕄) : every (fun q => iprop(Φ q ∗ Ψ q)) = iprop(every Φ ∗ every Ψ) := bigSepL_sep all16 Φ Ψ

omit [FloatOps F] in
/-- What holds for good serves every piece of a list. -/
theorem each_with {R : sProp 𝕄} [BI.Persistent R] {Φ Ψ : Fin 16 → sProp 𝕄} (h : ∀ q, iprop(R ∗ Φ q) ⊢ Ψ q) :
    ∀ l : List (Fin 16), iprop(R ∗ bigSepL l Φ) ⊢ bigSepL l Ψ
  | [] => by iintro ⟨-, H⟩; iexact H
  | q :: l => by
    rw [bigSepL_cons', bigSepL_cons']
    iintro ⟨#HR, Hq, Hl⟩
    isplitl [Hq]
    · iapply (h q); isplitr; · iexact HR
      iexact Hq
    · iapply (each_with h l); isplitr; · iexact HR
      iexact Hl

/-- The tokens of a layer and its credit are what the body takes for the layer. -/
theorem layer_intro (r : ℕ) (c : Dev nD) :
    iprop(layerMine r c ∗ every (credAt 1 r c) ∗ every (credAt 3 r c)) ⊢ layerPart (F := F) c r := by
  unfold layerMine layerPart
  rw [show dutyRows (F := F) r c = (fun q => iprop(tokAt 0 r c q ∗ tokAt 1 r q c)) from rfl,
    show dutyChunk (F := F) r c = (fun q => iprop(tokAt 2 r c q ∗ tokAt 3 r q c)) from rfl, every_sep, every_sep]
  simp only [every_eq]
  iintro ⟨⟨H0, H1, H2, H3⟩, Hc⟩
  isplitl [H0 H1]
  · isplitl [H0]; · iexact H0
    iexact H1
  isplitl [H2 H3]
  · isplitl [H2]; · iexact H2
    iexact H3
  iexact Hc

/-- The records are the shared part and the levels. -/
theorem records_intro (K : Dev nD × Own → ℕ) : iprop(shared A K ∗ levAts L lv) ⊢ records A K := by
  unfold shared records
  iintro ⟨⟨HI, HR⟩, HL⟩
  isplitl [HI]; · iexact HI
  isplitl [HR]; · iexact HR
  iexact HL

/-- A cell's place with its mark. -/
theorem place_intro (K : Dev nD × Own → ℕ) (c : Dev nD) (k : Fin 4) :
    iprop(records A K ∗ every (fun q => placed (c, some (k, q)))) ⊢ every (pos (F := F) k 0 c) := by
  refine each_with (fun q => ?_) all16
  unfold pos
  iintro ⟨#HR, Hp⟩
  isplitl [Hp]; · iexact Hp
  iapply (records_reached A K c (some (k, q))); iexact HR

/-- What device `c`'s body starts from, out of what the launch and the global step deal it. -/
theorem begin_intro (c : Dev nD) : iprop(levAts L lv ∗ Pipeline.launchCred (fun d => owing d owed1) c ∗ G' A c) ⊢ begin A c := by
  unfold G' begin entryPart places mine
  rw [bigSep_own, every_eq]
  iintro ⟨#HL, Hcr, ⟨%K, #HS⟩, ⟨Hn, H0, H1, H2, H3⟩, ⟨He, Hm0, Hm1, Hm2⟩⟩
  ihave #HR := (records_intro A K) $$ [HS HL]
  · isplitr; · iexact HS
    iexact HL
  ihave Hcr := (launch_creds c) $$ Hcr
  icases Hcr with ⟨Hc, Hc0, Hc1, Hc2⟩
  isplitr; · iexists K; iexact HR
  isplitl [He Hc Hn]
  · isplitl [He]; · iexact He
    isplitl [Hc]; · iexact Hc
    iexact Hn
  isplitl [H0 H1 H2 H3]
  · isplitl [H0]
    · iapply (place_intro A K c 0); isplitr; · iexact HR
      iexact H0
    isplitl [H1]
    · iapply (place_intro A K c 1); isplitr; · iexact HR
      iexact H1
    isplitl [H2]
    · iapply (place_intro A K c 2); isplitr; · iexact HR
      iexact H2
    iapply (place_intro A K c 3); isplitr; · iexact HR
    iexact H3
  isplitl [Hm0 Hc0]
  · iapply (layer_intro 0 c); isplitl [Hm0]; · iexact Hm0
    iexact Hc0
  isplitl [Hm1 Hc1]
  · iapply (layer_intro 1 c); isplitl [Hm1]; · iexact Hm1
    iexact Hc1
  iapply (layer_intro 2 c); isplitl [Hm2]; · iexact Hm2
  iexact Hc2

end Cert.Proof

end
-- ==== Proof.Run.lean ====
/-
  The run: from any memory with every counter at zero, every fair execution of the kernel on the sixteen
  devices terminates with each array at the contents the pipeline computes and every counter at zero; the
  argument arrays end as they were, and the result array ends at the result of the inputs' blocks.
-/
module

public import proofs.«01_k».proof.Proof.Launch

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg)

/-! ## The side conditions of the launch -/

omit [FloatOps F] in
/-- The buffers that are no staging buffer are the scratch buffers. -/
theorem scratch_eq (c : Dev nD) :
    (Pipeline.scopedRest (Ix := ℕ) (Name := ℕ) (U := UU) (Lvl := ℕ) (Val := Elt F) cfg0.spec c : sProp 𝕄) = scratch c := by
  refine (scopedRest0_eq c).trans ?_
  unfold scratch partAt gathAt slotsAt chunkAt
  rw [rowsOf_all]
  rfl

theorem share_eq (c : Dev nD) (w : Fin cfg0.W) : (dats m 0 c).share w = fullShare := by
  unfold Dat.share; split <;> rfl

/-- The launch element: the pipeline's at the staging cells, the exchange's at the devices' own cells. -/
def u₀ : UU :=
  (initOf (Pipeline.cells cfgs cellOf_inj) (Pipeline.launchToks cfgs cellOf_inj),
    initOf (Pipeline.ownCells cfgs (0 : Fin 1) ownSemFacts) (Pipeline.ownToksOf cfgs (0 : Fin 1) ownSemFacts duties))

omit [FloatOps F] in
theorem ownU_split (a : URounds (GSem nD τ sig) Unit) (b : URounds (GSem nD τ sig) (Fin 16)) :
    (ownU (a, b) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op b)))

theorem launch_element :
    (ownU u₀ : sProp 𝕄) ⊢ |={Set.univ}=> iprop(BI.own (EP (initOf (Pipeline.cells cfgs cellOf_inj) (Pipeline.launchToks cfgs cellOf_inj)))
      ∗ bigSep Finset.univ (G (inp m))) := by
  unfold u₀
  iintro Hu
  ihave H := (ownU_split _ _) $$ Hu
  icases H with ⟨HP, HX⟩
  imod (Pipeline.fund_own cfgs (0 : Fin 1) ownSemFacts ER (sched (inp m)) (Pipeline.ownToksOf cfgs (0 : Fin 1) ownSemFacts duties)) $$ HX with ⟨Hx, Htok⟩
  ihave Htk := (Entails.of_eq (Pipeline.bigSep_ownToksOf cfgs (0 : Fin 1) ownSemFacts ER duties)) $$ Htok
  imodintro
  isplitl [HP]; · iexact HP
  unfold G
  rw [bigSep_sep', ← bigSep_congr (s := Finset.univ) fun (c : Dev nD) _ => toks_eq (F := F) c]
  isplitl [Hx]; · iexact Hx
  iexact Htk

/-- The body's starting point, out of what the launch deals a device; -/
theorem start_intro (c : Dev nD) :
    iprop(Pipeline.unscopedRestP Pipeline.Prefetch.none cfg0.spec c (fun b => m ((c : Thread nD τ).loc b)) ∗ unscopedSems0 c ∗ levAts L lv
        ∗ Pipeline.launchCred (fun d => owing d owed1) c ∗ prngReg c (ρ c) ∗ G' (inp m) c)
      ⊢ |={Set.univ}=> iprop(begin (inp m) c ∗ emp) := by
  iintro ⟨-, -, Hlev, Hcr, -, HG⟩
  imodintro
  isplitl
  · iapply (begin_intro (inp m) c)
    isplitl [Hlev]; · iexact Hlev
    isplitl [Hcr]; · iexact Hcr
    iexact HG
  · iempintro

/-- with the scratch buffers it is the pipeline's invariant before the point; -/
theorem phi0_intro (c : Dev nD) :
    iprop(begin (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (inp m) c from rfl, scratch_eq]
  unfold Φ₀
  iintro ⟨Hs, -, Hr⟩
  isplitl [Hs]; · iexact Hs
  iexact Hr

/-- and the invariant after it gives the cells and the scratch buffers back. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scratch_eq]
  unfold Φ₁
  iintro H
  isplitr; · iempintro
  iexact H

/-- The waits on the staging cells are below everything owed. -/
theorem waits (c : Dev nD) : (levAts L lv : sProp 𝕄) ⊢ Pipeline.cellsWaits cfgs (dats m) 0 0 c :=
  Pipeline.cellsWaits_intro cfgs (dats m) 0 0 c fun w s t => by
    have hlv : lv ((c : Thread nD τ), .dma ((cfg0.win w).sem s)) 0 ≤ 0 := by
      revert c; fin_cases w <;> fin_cases s <;> decide
    rcases t with ⟨_ | _, ht⟩
    · exact mayWait c _ 0 0 owed1 (by decide) hlv (by decide)
    · exact mayWait c _ 0 0 [] (by decide) hlv (by decide)

/-! ## The run -/

/-- An array's contents after the run. -/
def finalA (c : Dev nD) (w : Fin cfg0.W) : Buf (Elt F) ((cfg0.win w).arr.view.loc (c : Thread nD τ)) := (dats m 0 c).arrAt w cfg0.N

set_option maxRecDepth 100000 in
/-- Every fair execution terminates with every array at those contents and every counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owing d owed1) (howed₀ := fun _ => rfl) (howedN := fun _ => rfl)
    (L := L) (lv := lv) (hL := L_of_ne) (hwaits := waits m)
    (G := G (inp m)) (G' := G' (inp m)) (u₀ := u₀) (hu₀ := launch_element m) (hglob := glob (inp m))
    (hA := fun _ _ => rfl) (hpf := fun _ k => k.elim0)
    (X := begin (inp m)) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

/-- An argument's array ends as it was; -/
theorem finalA_in (c : Dev nD) (w : Fin 8) (hw : (cfg0.win w).isOut = false) : finalA m c w = m ((cfg0.win w).arr.view.loc (c : Thread nD τ)) :=
  (dats (F := F) m 0 c).arrAt_in w hw _

/-- the result's, read through its window's block, is the result. -/
theorem finalA_out (c : Dev nD) : (win0_7.blk t0_0).view.read (Elt F) (finalA m c (7 : Fin 8)) = result (inp m) c := by
  unfold finalA
  rw [show cfg0.N = (t0_0 : Fin cfg0.N).val + 1 from rfl, (dats m 0 c).arrAt_succ (7 : Fin 8) t0_0]
  rw [flush0_7 t0_0, if_pos rfl]
  exact View.read_write_univ _ _

end Cert.Proof

end
-- ==== Proof.Same.lean ====
/-
  The kernel's program and the one read at the ideal values have the same text.
-/
module

public import proofs.«01_k».proof.Kernel
public import proofs.«01_k».proof.Proof.Gen.Kernel
public import proofs.«01_k».proof.Proof.Gen.KernelIdeal

@[expose] public section

noncomputable section

namespace Cert.Proof

open Idealize.ShloMosaic Idealize.ShloMosaic.TcCoe

variable {F : FTy → Type} [FloatOps F]

set_option maxRecDepth 100000 in
/-- The two kernel bodies are the same program. -/
theorem same_body : (@Cert.Kernel.cc0_body F _ _) = @Cert.KernelIdeal.cc0_body F _ _ := rfl

/-- What a label runs is the same in the two; -/
theorem same_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (_, s) =>
    dsimp only
    rw [same_body]

/-- so the two body tables are equal. -/
theorem same_defs : Cert.Kernel.defs (F := F) = Cert.KernelIdeal.defs (F := F) := by
  unfold Cert.Kernel.defs Cert.KernelIdeal.defs
  rw [same_defs₀]
  rfl

end Cert.Proof

end
-- ==== Proof.Frames.lean ====
/-
  The frames: the kernel, at the machine's float values and at the ideal ones, ends with its arguments as
  they were and every counter at zero; and so does the reference.
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Same

@[expose] public section

noncomputable section

namespace Cert.Proof

open Cert.KernelIdeal Cert.KernelIdeal.Gen
open Idealize.ShloMosaic Idealize.ShloMosaic.TcCoe Idealize.SL.Sem

variable {F : FTy → Type} [FloatOps F]

/-- The seven argument arrays of a device are in `s` what they are in `m`. -/
def ArgsKept (m s : (ℓ : Loc nD τ sig) → Buf (Elt F) ℓ) (c : Dev nD) : Prop :=
  s ((c : Thread nD τ).loc main_arg0) = m ((c : Thread nD τ).loc main_arg0)
    ∧ s ((c : Thread nD τ).loc main_arg1) = m ((c : Thread nD τ).loc main_arg1)
    ∧ s ((c : Thread nD τ).loc main_arg2) = m ((c : Thread nD τ).loc main_arg2)
    ∧ s ((c : Thread nD τ).loc main_arg3) = m ((c : Thread nD τ).loc main_arg3)
    ∧ s ((c : Thread nD τ).loc main_arg4) = m ((c : Thread nD τ).loc main_arg4)
    ∧ s ((c : Thread nD τ).loc main_arg5) = m ((c : Thread nD τ).loc main_arg5)
    ∧ s ((c : Thread nD τ).loc main_arg6) = m ((c : Thread nD τ).loc main_arg6)

/-- Arrays that end at the pipeline's final contents leave the arguments as they were. -/
theorem args_kept (m s : (ℓ : Loc nD τ sig) → Buf (Elt F) ℓ) (c : Dev nD)
    (h : ∀ w : Fin cfg0.W, s ((cfg0.win w).arr.view.loc (c : Thread nD τ)) = finalA m c w) : ArgsKept m s c :=
  ⟨(h (0 : Fin 8)).trans (finalA_in m c 0 rfl), (h (1 : Fin 8)).trans (finalA_in m c 1 rfl), (h (3 : Fin 8)).trans (finalA_in m c 3 rfl),
    (h (5 : Fin 8)).trans (finalA_in m c 5 rfl), (h (2 : Fin 8)).trans (finalA_in m c 2 rfl), (h (4 : Fin 8)).trans (finalA_in m c 4 rfl),
    (h (6 : Fin 8)).trans (finalA_in m c 6 rfl)⟩

/-- The kernel read at the ideal values terminates with its arguments unchanged and every counter at zero. -/
theorem frame_kernelIdeal : Cert.quiescent_KernelIdeal := fun m ρ _ =>
  (θ_run Cert.KernelIdeal.defs _ _).mono (fun _ h => ⟨fun c => args_kept m _ c (h.1 c), h.2⟩) (run_main (F := Ideal) m ρ)

/-- The kernel at the machine's float values terminates with its arguments unchanged and every counter at zero. -/
theorem frame_kernel : Cert.quiescent_Kernel := fun m ρ _ => by
  rw [same_defs]
  exact (θ_run Cert.KernelIdeal.defs _ _).mono (fun _ h => ⟨fun c => args_kept m _ c (h.1 c), h.2⟩) (run_main (F := Bits) m ρ)

/-- The reference terminates with its arguments unchanged and every counter at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Values.lean ====
/-
  The values at the ideal floats, element by element: each product as a sum over the contracted coordinate,
  the gathered activations as the positive part of the sum of the devices' partial products, and the result.
-/
module

public import proofs.«01_k».proof.Proof.Contents
public import Idealize.ShloMosaic.Lib.MatmulPlain
public import Idealize.ShloMosaic.Lib.Pipeline.Value

@[expose] public section

noncomputable section

namespace Cert.Proof

open Cert.KernelIdeal Cert.KernelIdeal.Gen

open Idealize.ShloMosaic
open Idealize.ShloMosaic.ValueIdx
open scoped BigOperators

/-- A product onto a zero accumulator, at an element. -/
theorem product_apply {M K N : ℕ} (a : FVec Ideal ⟨2, ![M, K]⟩ .bf16) (b : FVec Ideal ⟨2, ![K, N]⟩ .bf16) (i : Fin M) (j : Fin N) :
    (matmul (DotDims.plain M K N) none a b (constant ⟨2, ![M, N]⟩ .f32 0x00000000#32) : FVec Ideal ⟨2, ![M, N]⟩ .f32) (ix2 i j)
      = (∑ k : Fin K, a (ix2 i k) * b (ix2 k j) : EReal) := by
  refine (Ideal.matmul_plain_apply none a b _ i j).trans ?_
  show Ideal.ofBits .f32 0x00000000#32 + _ = _
  rw [Ideal.ofBits_zero_f32, zero_add]

/-- The first partial product, at an element. -/
theorem first_apply (x : Vec Ideal S256x256 .bf16) (w : Vec Ideal S256x512 .bf16) (i : Fin 256) (j : Fin 512) :
    k0_pay1 (F := Ideal) x w (ix2 i j) = (∑ k : Fin 256, x (ix2 i k) * w (ix2 k j) : EReal) := by
  unfold k0_pay1
  rw [shapeCast_self, shapeCast_self, shapeCast_self]
  exact product_apply (M := 256) (K := 256) (N := 512) x w i j

/-- The result, at an element. -/
theorem last_apply (a : Vec Ideal S256x512 .bf16) (w : Vec Ideal S512x256 .bf16) (i : Fin 256) (j : Fin 256) :
    k0_pay14 (F := Ideal) a w (ix2 i j) = (∑ k : Fin 512, a (ix2 i k) * w (ix2 k j) : EReal) := by
  unfold k0_pay14
  rw [shapeCast_self]
  exact product_apply (M := 256) (K := 512) (N := 256) a w i j

/-- Two products one after the other on 128 rows, at an element. -/
theorem step_apply (v : Vec Ideal S512x256 .bf16) (w : Vec Ideal S256x512 .bf16) (a : Vec Ideal S128x512 .bf16) (i : Fin 128) (j : Fin 512) :
    k0_pay5 (F := Ideal) (k0_pay3 v) (k0_pay4 w) a (ix2 i j)
      = (∑ l : Fin 256, (∑ k : Fin 512, a (ix2 i k) * v (ix2 k l)) * w (ix2 l j) : EReal) := by
  unfold k0_pay5 k0_pay3 k0_pay4
  dsimp only
  rw [shapeCast_self, shapeCast_self, shapeCast_self]
  refine (product_apply (M := 128) (K := 256) (N := 512) _ w i j).trans ?_
  refine Finset.sum_congr rfl fun l _ => congrArg (fun z : EReal => z * w (ix2 l j)) ?_
  exact product_apply (M := 128) (K := 512) (N := 256) a v i l

/-- The next layer's partial product, at an element. -/
theorem nextPart_apply (A : Inputs Ideal) (r : ℕ) (a : Vec Ideal S256x512 .bf16) (c : Dev nD) (i : Fin 256) (j : Fin 512) :
    nextPart A r a c (ix2 i j)
      = (∑ l : Fin 256, (∑ k : Fin 512, a (ix2 i k) * A.wout r c (ix2 k l)) * A.win (r + 1) c (ix2 l j) : EReal) := by
  by_cases h : i.val < 128
  · unfold nextPart
    exact (halves_low _ _ (ix2 (⟨i.val, h⟩ : Fin 128) j)).trans (step_apply _ _ _ _ j)
  · have hi : i.val - 128 < 128 := by have := i.isLt; omega
    have e : (ix2 i j : S256x512.Idx) = ix2 (⟨128 + (i.val - 128), by omega⟩ : Fin 256) j :=
      congrArg (fun k => ix2 (n0 := 256) (n1 := 512) k j) (Fin.ext (by show i.val = 128 + (i.val - 128); omega))
    have hh : ∀ k : Fin 512, highHalf a (ix2 (⟨i.val - 128, hi⟩ : Fin 128) k) = a (ix2 i k) := fun k =>
      congrArg (fun k' => a (ix2 (n0 := 256) (n1 := 512) k' k)) (Fin.ext (by show 128 + (i.val - 128) = i.val; omega))
    refine (congrArg (nextPart A r a c) e).trans ?_
    unfold nextPart
    refine (halves_high _ _ (ix2 (⟨i.val - 128, hi⟩ : Fin 128) j)).trans ((step_apply _ _ _ _ j).trans ?_)
    refine Finset.sum_congr rfl fun l _ => congrArg (fun z : EReal => z * A.win (r + 1) c (ix2 l j)) ?_
    exact Finset.sum_congr rfl fun k _ => congrArg (fun z : EReal => z * A.wout r c (ix2 k l)) (hh k)

/-- What is gathered from the reduced chunks is the positive part of the devices' sum. -/
theorem gathered_apply (P : Dev nD → Vec Ideal S256x512 .bf16) (i : Fin 256) (j : Fin 512) :
    gather (redOf P) (ix2 i j) = (max (∑ d : Dev nD, P d (ix2 i j)) 0 : EReal) := by
  have hi := i.isLt
  have row : chunkRow ⟨i.val / 16, by omega⟩ ⟨i.val % 16, Nat.mod_lt _ (by decide)⟩ = i :=
    Fin.ext (by show 16 * (i.val / 16) + i.val % 16 = i.val; omega)
  show k0_pay2 (F := Ideal) (slotsOf P ⟨i.val / 16, _⟩) (ix2 (⟨i.val % 16, _⟩ : Fin 16) j) = _
  unfold k0_pay2
  dsimp only
  rw [shapeCast_self]
  show max (multiReduction (F := Ideal) .add [0] S16x512 _ 0x00000000#32 reduces_S16x16x512_S16x512 (.inl rfl) rfl _) (Ideal.ofBits .f32 0x00000000#32) = _
  rw [Ideal.ofBits_zero_f32]
  refine congrArg (fun z : EReal => max z 0) ?_
  refine (Ideal.multiReduction_add_single _ _ reduces_S16x16x512_S16x512 _ _ _).trans ?_
  refine Finset.sum_congr rfl fun d _ => ?_
  show P d (ix2 (chunkRow ⟨i.val / 16, _⟩ ⟨i.val % 16, _⟩) j) = _
  rw [row]

end Cert.Proof

end
-- ==== Proof.Equation.lean ====
/-
  The equation at the ideal values: the reference's arrays, cut into the devices' blocks, are the kernel's.
  The reference contracts 4096 coordinates where the sixteen devices contract 256 each and add; nothing else
  differs, so each layer's activations agree, and with them the result's blocks.
-/
module

public import proofs.«01_k».proof.Proof.Values
public import proofs.«01_k».proof.Proof.Gen.ReferenceIdeal
public import Idealize.ShloMosaic.Lib.Layout
public import Idealize.ShloMosaic.Lib.StackMember

@[expose] public section

noncomputable section

namespace Cert.Proof

open Idealize.ShloMosaic
open Idealize.ShloMosaic.ValueIdx
open scoped BigOperators
open Cert.ReferenceIdeal Cert.ReferenceIdeal.Gen in
/-- The reference's hidden activations of a layer. -/
def hidden (x : FVec Ideal S256x4096 .bf16) (w : FVec Ideal S4096x512 .bf16) : FVec Ideal S256x512 .bf16 :=
  maximumf (truncf .bf16 (Host.dotGeneral dot_S256x4096_S4096x512_S256x512_1_0_0_1_n_n none x w) bitsLt_bf16_f32)
    (broadcastInDim S256x512 ![] bcast_S_S256x512 (constant S_ .bf16 0x0000#16))

open Cert.ReferenceIdeal Cert.ReferenceIdeal.Gen in
/-- The reference's output of a layer. -/
def outer (h : FVec Ideal S256x512 .bf16) (v : FVec Ideal S512x4096 .bf16) : FVec Ideal S256x4096 .bf16 :=
  truncf .bf16 (Host.dotGeneral dot_S256x512_S512x4096_S256x4096_1_0_0_1_n_n none h v) bitsLt_bf16_f32

/-- The reference's arrays: `x`, and by layer the input and the output weights. -/
structure Whole where
  /-- The array of `x`, -/
  x : FVec Ideal ReferenceIdeal.S256x4096 .bf16
  /-- the input weights, -/
  win : ℕ → FVec Ideal ReferenceIdeal.S4096x512 .bf16
  /-- and the output weights. -/
  wout : ℕ → FVec Ideal ReferenceIdeal.S512x4096 .bf16

/-- The reference's activations by layer. -/
def Whole.act (W : Whole) : ℕ → FVec Ideal ReferenceIdeal.S256x512 .bf16
  | 0 => hidden W.x (W.win 0)
  | r + 1 => hidden (outer (W.act r) (W.wout r)) (W.win (r + 1))

open Cert.ReferenceIdeal Cert.ReferenceIdeal.Gen in
/-- The reference's result. -/
def Whole.result (W : Whole) : FVec Ideal S256x4096 .f32 := extf .f32 (outer (W.act 2) (W.wout 2)) bitsLt_bf16_f32

/-- Coordinate `k` of device `d` among the 4096. -/
def far (d : Fin 16) (k : Fin 256) : Fin 4096 := ⟨d.val * 256 + k.val, by omega⟩

/-- A sum over the 4096 coordinates, device by device. -/
theorem sum_far (f : Fin 4096 → EReal) : ∑ k : Fin 4096, f k = ∑ d : Fin 16, ∑ k : Fin 256, f (far d k) := by
  rw [← Equiv.sum_comp (finProdFinEquiv (m := 16) (n := 256)) f, Fintype.sum_prod_type]
  refine Finset.sum_congr rfl fun d _ => Finset.sum_congr rfl fun k _ => congrArg f (Fin.ext ?_)
  show k.val + 256 * d.val = d.val * 256 + k.val
  omega

/-- The reference's hidden activations, at an element. -/
theorem hidden_apply (x : FVec Ideal ReferenceIdeal.S256x4096 .bf16) (w : FVec Ideal ReferenceIdeal.S4096x512 .bf16) (i : Fin 256) (j : Fin 512) :
    hidden x w (ix2 i j) = (max (∑ d : Fin 16, ∑ k : Fin 256, x (ix2 i (far d k)) * w (ix2 (far d k) j)) 0 : EReal) := by
  show max (Host.dotGeneral (DotDims.plain 256 4096 512) none x w (ix2 i j)) (Ideal.ofBits .bf16 0x0000#16) = _
  rw [StackMember.dotGeneral_plain_apply, sum_far fun k => x (ix2 i k) * w (ix2 k j)]
  refine congrArg (max _) ?_
  simp [Ideal.ofBits, Ideal.ieee]

/-- The reference's output of a layer, at an element. -/
theorem outer_apply (h : FVec Ideal ReferenceIdeal.S256x512 .bf16) (v : FVec Ideal ReferenceIdeal.S512x4096 .bf16) (i : Fin 256) (l : Fin 4096) :
    outer h v (ix2 i l) = (∑ k : Fin 512, h (ix2 i k) * v (ix2 k l) : EReal) :=
  StackMember.dotGeneral_plain_apply none h v i l

/-- The devices' inputs are the blocks of the reference's arrays. -/
structure Blocks (A : Inputs Ideal) (W : Whole) : Prop where
  /-- Columns of `x`, -/
  x : ∀ d i k, A.x d (ix2 i k) = W.x (ix2 i (far d k))
  /-- rows of the input weights, -/
  win : ∀ r, r < 3 → ∀ d k j, A.win r d (ix2 k j) = W.win r (ix2 (far d k) j)
  /-- and columns of the output weights. -/
  wout : ∀ r, r < 3 → ∀ d k l, A.wout r d (ix2 k l) = W.wout r (ix2 k (far d l))

variable {A : Inputs Ideal} {W : Whole}

/-- The gathered activations of each layer are the reference's. -/
theorem act_eq (B : Blocks A W) : ∀ r, r < 3 → ∀ (i : Fin 256) (j : Fin 512), act A r (ix2 i j) = W.act r (ix2 i j)
  | 0, _, i, j => by
    refine (gathered_apply (part A 0) i j).trans ((congrArg (fun z : EReal => max z 0) ?_).trans (hidden_apply W.x (W.win 0) i j).symm)
    refine Finset.sum_congr rfl fun d _ => (first_apply (A.x d) (A.win 0 d) i j).trans ?_
    refine Finset.sum_congr rfl fun k _ => ?_
    rw [B.x, B.win 0 (by decide)]
  | r + 1, hr, i, j => by
    refine (gathered_apply (part A (r + 1)) i j).trans
      ((congrArg (fun z : EReal => max z 0) ?_).trans (hidden_apply (outer (W.act r) (W.wout r)) (W.win (r + 1)) i j).symm)
    refine Finset.sum_congr rfl fun d _ => (nextPart_apply A r (act A r) d i j).trans ?_
    refine Finset.sum_congr rfl fun l _ => ?_
    rw [B.win (r + 1) hr, outer_apply]
    refine congrArg (fun z : EReal => z * W.win (r + 1) (ix2 (far d l) j)) (Finset.sum_congr rfl fun k _ => ?_)
    rw [B.wout r (by omega), act_eq B r (by omega)]

/-- The result on each device is its block of columns of the reference's result. -/
theorem result_eq (B : Blocks A W) (c : Fin 16) :
    result A c = Layout.block ⟨2, ![256, 256]⟩ ⟨2, ![256, 4096]⟩ 1 16 c W.result := by
  funext i
  obtain ⟨r, l, rfl⟩ : ∃ (r l : Fin 256), i = ix2 r l := ⟨i 0, i 1, eq_ix2 (n0 := 256) (n1 := 256) i⟩
  refine (last_apply (act A 2) (A.wout 2 c) r l).trans (Eq.trans ?_ ((outer_apply (W.act 2) (W.wout 2) r (far c l)).symm.trans ?_))
  · refine Finset.sum_congr rfl fun k _ => ?_
    rw [B.wout 2 (by decide), act_eq B 2 (by decide)]
  · show W.result (ix2 r (far c l)) = W.result _
    refine congrArg W.result (funext fun a => ?_)
    match a with
    | ⟨0, _⟩ => rfl
    | ⟨1, _⟩ => rfl

end Cert.Proof

end
-- ==== Proof.Algebraic.lean ====
/-
  The value claim: from arrays that are the blocks of the reference's, every device's result ends as its block
  of the reference's result.
-/
module

public import proofs.«01_k».proof.Proof.Frames
public import proofs.«01_k».proof.Proof.Equation

@[expose] public section

noncomputable section

namespace Cert.Proof

open Cert.KernelIdeal Cert.KernelIdeal.Gen
open Idealize.ShloMosaic Idealize.ShloMosaic.TcCoe Idealize.ShloMosaic.ValueIdx Idealize.SL.Sem

/-! ## A window's one block is its whole array -/

theorem read_arg0 (f : main_arg0.ty.Contents (Elt Ideal)) : (win0_0.blk t0_0).view.read (Elt Ideal) f = f :=
  Memref.read_access_unit_zero (Elt Ideal) main_arg0 (funext fun a => by fin_cases a <;> decide) (fun a => by fin_cases a <;> decide) f
theorem read_arg1 (f : main_arg1.ty.Contents (Elt Ideal)) : (win0_1.blk t0_0).view.read (Elt Ideal) f = f :=
  Memref.read_access_unit_zero (Elt Ideal) main_arg1 (funext fun a => by fin_cases a <;> decide) (fun a => by fin_cases a <;> decide) f
theorem read_arg2 (f : main_arg2.ty.Contents (Elt Ideal)) : (win0_3.blk t0_0).view.read (Elt Ideal) f = f :=
  Memref.read_access_unit_zero (Elt Ideal) main_arg2 (funext fun a => by fin_cases a <;> decide) (fun a => by fin_cases a <;> decide) f
theorem read_arg3 (f : main_arg3.ty.Contents (Elt Ideal)) : (win0_5.blk t0_0).view.read (Elt Ideal) f = f :=
  Memref.read_access_unit_zero (Elt Ideal) main_arg3 (funext fun a => by fin_cases a <;> decide) (fun a => by fin_cases a <;> decide) f
theorem read_arg4 (f : main_arg4.ty.Contents (Elt Ideal)) : (win0_2.blk t0_0).view.read (Elt Ideal) f = f :=
  Memref.read_access_unit_zero (Elt Ideal) main_arg4 (funext fun a => by fin_cases a <;> decide) (fun a => by fin_cases a <;> decide) f
theorem read_arg5 (f : main_arg5.ty.Contents (Elt Ideal)) : (win0_4.blk t0_0).view.read (Elt Ideal) f = f :=
  Memref.read_access_unit_zero (Elt Ideal) main_arg5 (funext fun a => by fin_cases a <;> decide) (fun a => by fin_cases a <;> decide) f
theorem read_arg6 (f : main_arg6.ty.Contents (Elt Ideal)) : (win0_6.blk t0_0).view.read (Elt Ideal) f = f :=
  Memref.read_access_unit_zero (Elt Ideal) main_arg6 (funext fun a => by fin_cases a <;> decide) (fun a => by fin_cases a <;> decide) f
theorem read_result (f : main_v1.ty.Contents (Elt Ideal)) : (win0_7.blk t0_0).view.read (Elt Ideal) f = f :=
  Memref.read_access_unit_zero (Elt Ideal) main_v1 (funext fun a => by fin_cases a <;> decide) (fun a => by fin_cases a <;> decide) f

/-! ## Blocks, at an element -/

/-- A block of columns of an array. -/
theorem block_cols {n : ℕ} (v : (⟨2, ![n, 4096]⟩ : Shape).Idx → EReal) (h : Layout.Tiles ⟨2, ![n, 256]⟩ ⟨2, ![n, 4096]⟩ 1 16) (d : Fin 16)
    (i : Fin n) (k : Fin 256) : Layout.block ⟨2, ![n, 256]⟩ ⟨2, ![n, 4096]⟩ 1 16 d v h (ix2 i k) = v (ix2 i (far d k)) :=
  congrArg v (funext fun a => by
    match a with
    | ⟨0, _⟩ => rfl
    | ⟨1, _⟩ => rfl)
/-- A block of rows of an array. -/
theorem block_rows {n : ℕ} (v : (⟨2, ![4096, n]⟩ : Shape).Idx → EReal) (h : Layout.Tiles ⟨2, ![256, n]⟩ ⟨2, ![4096, n]⟩ 0 16) (d : Fin 16)
    (k : Fin 256) (j : Fin n) : Layout.block ⟨2, ![256, n]⟩ ⟨2, ![4096, n]⟩ 0 16 d v h (ix2 k j) = v (ix2 (far d k) j) :=
  congrArg v (funext fun a => by
    match a with
    | ⟨0, _⟩ => rfl
    | ⟨1, _⟩ => rfl)

/-! ## The claim -/

/-- The reference's arrays, in its one device's memory. -/
def wholeOf (m' : (ℓ : Loc ReferenceIdeal.nD ReferenceIdeal.τ ReferenceIdeal.sig) → Buf (Elt Ideal) ℓ) : Whole where
  x := m' (((0 : Dev ReferenceIdeal.nD).tc : Thread ReferenceIdeal.nD ReferenceIdeal.τ).loc ReferenceIdeal.main_arg0)
  win r := match r with
    | 0 => m' (((0 : Dev ReferenceIdeal.nD).tc : Thread ReferenceIdeal.nD ReferenceIdeal.τ).loc ReferenceIdeal.main_arg1)
    | 1 => m' (((0 : Dev ReferenceIdeal.nD).tc : Thread ReferenceIdeal.nD ReferenceIdeal.τ).loc ReferenceIdeal.main_arg2)
    | _ => m' (((0 : Dev ReferenceIdeal.nD).tc : Thread ReferenceIdeal.nD ReferenceIdeal.τ).loc ReferenceIdeal.main_arg3)
  wout r := match r with
    | 0 => m' (((0 : Dev ReferenceIdeal.nD).tc : Thread ReferenceIdeal.nD ReferenceIdeal.τ).loc ReferenceIdeal.main_arg4)
    | 1 => m' (((0 : Dev ReferenceIdeal.nD).tc : Thread ReferenceIdeal.nD ReferenceIdeal.τ).loc ReferenceIdeal.main_arg5)
    | _ => m' (((0 : Dev ReferenceIdeal.nD).tc : Thread ReferenceIdeal.nD ReferenceIdeal.τ).loc ReferenceIdeal.main_arg6)

/-- The kernel and the reference compute the same: each device's result is its block of the reference's. -/
theorem algebraic : Cert.algebraic_KernelIdeal_ReferenceIdeal := by
  intro m ρ m' ρ' _ hagree
  have B : Blocks (inp m) (wholeOf m') :=
    { x := fun d i k => by
        show (win0_0.blk t0_0).view.read (Elt Ideal) (m ((d : Thread nD τ).loc main_arg0)) (ix2 i k) = _
        rw [read_arg0, (hagree d).1]; exact block_cols (n := 256) _ _ d i k
      win := fun r hr d k j => by
        match r, hr with
        | 0, _ =>
          show (win0_1.blk t0_0).view.read (Elt Ideal) (m ((d : Thread nD τ).loc main_arg1)) (ix2 k j) = _
          rw [read_arg1, (hagree d).2.1]; exact block_rows (n := 512) _ _ d k j
        | 1, _ =>
          show (win0_3.blk t0_0).view.read (Elt Ideal) (m ((d : Thread nD τ).loc main_arg2)) (ix2 k j) = _
          rw [read_arg2, (hagree d).2.2.1]; exact block_rows (n := 512) _ _ d k j
        | 2, _ =>
          show (win0_5.blk t0_0).view.read (Elt Ideal) (m ((d : Thread nD τ).loc main_arg3)) (ix2 k j) = _
          rw [read_arg3, (hagree d).2.2.2.1]; exact block_rows (n := 512) _ _ d k j
      wout := fun r hr d k l => by
        match r, hr with
        | 0, _ =>
          show (win0_2.blk t0_0).view.read (Elt Ideal) (m ((d : Thread nD τ).loc main_arg4)) (ix2 k l) = _
          rw [read_arg4, (hagree d).2.2.2.2.1]; exact block_cols (n := 512) _ _ d k l
        | 1, _ =>
          show (win0_4.blk t0_0).view.read (Elt Ideal) (m ((d : Thread nD τ).loc main_arg5)) (ix2 k l) = _
          rw [read_arg5, (hagree d).2.2.2.2.2.1]; exact block_cols (n := 512) _ _ d k l
        | 2, _ =>
          show (win0_6.blk t0_0).view.read (Elt Ideal) (m ((d : Thread nD τ).loc main_arg6)) (ix2 k l) = _
          rw [read_arg6, (hagree d).2.2.2.2.2.2]; exact block_cols (n := 512) _ _ d k l }
  refine ⟨(wholeOf m').result, ?_, ?_⟩
  · refine (θ_run Cert.KernelIdeal.defs _ _).mono (fun _ h c => ⟨(h.1 c (7 : Fin 8)).trans ?_, args_kept m _ c (h.1 c)⟩) (run_main (F := Ideal) m ρ)
    exact (read_result _).symm.trans ((finalA_out m c).trans (result_eq B c))
  · exact (θ_run Cert.ReferenceIdeal.defs _ _).mono (fun _ h => h 0) (Cert.ReferenceIdeal.Value.run (F := Ideal) m' ρ')

end Cert.Proof

end
-- ==== Proof.lean ====
/-
  The proof of `Cert.Claim`: the three frames (Proof/Frames.lean), the idealization, which rewrites nothing,
  and the value claim (Proof/Algebraic.lean). The launch deals every device its semaphores' cells and credits
  (Proof/Credits.lean, Proof/Launch.lean); the kernel's body is proved once, over any float values, in pieces
  (Proof/Text.lean up to Proof/Body.lean); Proof/Run.lean joins them into the run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebraic

@[expose] public section

noncomputable section

namespace Cert.Proof

/-- Every claim of this certificate holds. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
